-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_in_range_KernelIdeal [hPre_finite_and_in_range_KernelIdeal : Cert.Pre_finite_and_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_and_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_and_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_in_range_ReferenceIdeal [hPre_finite_and_in_range_ReferenceIdeal : Cert.Pre_finite_and_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_and_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_and_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_and_in_range_KernelIdeal [hKernelIdeal : Cert.KernelIdeal.Facts] [hPre_finite_and_in_range_KernelIdeal : Cert.Pre_finite_and_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_and_in_range_ReferenceIdeal [hReferenceIdeal : Cert.ReferenceIdeal.Facts] [hPre_finite_and_in_range_ReferenceIdeal : Cert.Pre_finite_and_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_and_in_range_KernelIdeal [hKernelIdeal : Cert.KernelIdeal.Facts] [hReferenceIdeal : Cert.ReferenceIdeal.Facts] [hPre_finite_and_in_range_KernelIdeal : Cert.Pre_finite_and_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_in_range_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![512, 4096]⟩ ⟨2, ![512, 16384]⟩ (Layout.meshBlock [2, 2, 4] ![[], [2]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v26) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_and_in_range_KernelIdeal : Cert.Pre_finite_and_in_range_KernelIdeal.Facts) (hPre_finite_and_in_range_ReferenceIdeal : Cert.Pre_finite_and_in_range_ReferenceIdeal.Facts),
    quiescent_Kernel (hKernel := hKernel)
    ∧ quiescent_KernelIdeal (hKernelIdeal := hKernelIdeal)
    ∧ quiescent_KernelIdeal_pre_finite_and_in_range_KernelIdeal (hKernelIdeal := hKernelIdeal) (hPre_finite_and_in_range_KernelIdeal := hPre_finite_and_in_range_KernelIdeal)
    ∧ quiescent_ReferenceIdeal (hReferenceIdeal := hReferenceIdeal)
    ∧ quiescent_ReferenceIdeal_pre_finite_and_in_range_ReferenceIdeal (hReferenceIdeal := hReferenceIdeal) (hPre_finite_and_in_range_ReferenceIdeal := hPre_finite_and_in_range_ReferenceIdeal)
    ∧ preserves_Kernel_KernelIdeal
    ∧ algebraic_KernelIdeal_ReferenceIdeal_pre_finite_and_in_range_KernelIdeal (hKernelIdeal := hKernelIdeal) (hReferenceIdeal := hReferenceIdeal) (hPre_finite_and_in_range_KernelIdeal := hPre_finite_and_in_range_KernelIdeal)
-- ==== Pre_finite_and_in_range_KernelIdeal.lean ====
abbrev S256x512 : Shape := ⟨2, ![256, 512]⟩
abbrev S512x4096 : Shape := ⟨2, ![512, 4096]⟩
abbrev S256 : Shape := ⟨1, ![256]⟩
abbrev S_ : Shape := ⟨0, ![]⟩

class Facts : Prop where
  bcast_S_S256x512 : S_.BroadcastsInDim S256x512 (![] : Fin 0 → Fin S256x512.rank)
  bcast_S_S512x4096 : S_.BroadcastsInDim S512x4096 (![] : Fin 0 → Fin S512x4096.rank)
  bcast_S_S256 : S_.BroadcastsInDim S256 (![] : Fin 0 → Fin S256.rank)

variable [Facts]

def fn {F : FTy → Type} [FloatOps F] (main_arg0 : FVec F S256x512 .f32) (main_arg1 : FVec F S512x4096 .f32) (main_arg2 : IVec S256 32) : IVec S256x512 1 × IVec S512x4096 1 × IVec S256 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_v3 : FVec F S512x4096 .f32 := Host.absf main_arg1
  let main_cst_0 : FVec F S_ .f32 := constant S_ .f32 0x7F800000#32
  let main_v4 : FVec F S512x4096 .f32 := broadcastInDim S512x4096 ![] bcast_S_S512x4096 main_cst_0
  let main_v5 : IVec S512x4096 1 := cmpf .olt main_v3 main_v4
  let main_c : IVec S_ 32 := constantI S_ 32 0#32
  let main_v6 : IVec S256 32 := broadcastInDim S256 ![] bcast_S_S256 main_c
  let main_v7 : IVec S256 1 := cmpi .sge main_arg2 main_v6
  let main_c_1 : IVec S_ 32 := constantI S_ 32 16384#32
  let main_v8 : IVec S256 32 := broadcastInDim S256 ![] bcast_S_S256 main_c_1
  let main_v9 : IVec S256 1 := cmpi .slt main_arg2 main_v8
  let main_v10 : IVec S256 1 := andi main_v7 main_v9
  (main_v2, main_v5, main_v10)
-- ==== Pre_finite_and_in_range_ReferenceIdeal.lean ====
abbrev S256x512 : Shape := ⟨2, ![256, 512]⟩
abbrev S512x16384 : Shape := ⟨2, ![512, 16384]⟩
abbrev S256 : Shape := ⟨1, ![256]⟩
abbrev S_ : Shape := ⟨0, ![]⟩

class Facts : Prop where
  bcast_S_S256x512 : S_.BroadcastsInDim S256x512 (![] : Fin 0 → Fin S256x512.rank)
  bcast_S_S512x16384 : S_.BroadcastsInDim S512x16384 (![] : Fin 0 → Fin S512x16384.rank)
  bcast_S_S256 : S_.BroadcastsInDim S256 (![] : Fin 0 → Fin S256.rank)

variable [Facts]

def fn {F : FTy → Type} [FloatOps F] (main_arg0 : FVec F S256x512 .f32) (main_arg1 : FVec F S512x16384 .f32) (main_arg2 : IVec S256 32) : IVec S256x512 1 × IVec S512x16384 1 × IVec S256 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_v3 : FVec F S512x16384 .f32 := Host.absf main_arg1
  let main_cst_0 : FVec F S_ .f32 := constant S_ .f32 0x7F800000#32
  let main_v4 : FVec F S512x16384 .f32 := broadcastInDim S512x16384 ![] bcast_S_S512x16384 main_cst_0
  let main_v5 : IVec S512x16384 1 := cmpf .olt main_v3 main_v4
  let main_c : IVec S_ 32 := constantI S_ 32 0#32
  let main_v6 : IVec S256 32 := broadcastInDim S256 ![] bcast_S_S256 main_c
  let main_v7 : IVec S256 1 := cmpi .sge main_arg2 main_v6
  let main_c_1 : IVec S_ 32 := constantI S_ 32 16384#32
  let main_v8 : IVec S256 32 := broadcastInDim S256 ![] bcast_S_S256 main_c_1
  let main_v9 : IVec S256 1 := cmpi .slt main_arg2 main_v8
  let main_v10 : IVec S256 1 := andi main_v7 main_v9
  (main_v2, main_v5, main_v10)
-- ==== Kernel.lean ====
abbrev S256x512 : Shape := ⟨2, ![256, 512]⟩
abbrev S512x4096 : Shape := ⟨2, ![512, 4096]⟩
abbrev S256 : Shape := ⟨1, ![256]⟩
abbrev S4x2x256 : Shape := ⟨3, ![4, 2, 256]⟩
abbrev S3 : Shape := ⟨1, ![3]⟩
abbrev S_ : Shape := ⟨0, ![]⟩
abbrev S256x4096 : Shape := ⟨2, ![256, 4096]⟩
abbrev S256x1 : Shape := ⟨2, ![256, 1]⟩
abbrev S1x1x256 : Shape := ⟨3, ![1, 1, 256]⟩
abbrev S1 : Shape := ⟨1, ![1]⟩
abbrev S1x2x256 : Shape := ⟨3, ![1, 2, 256]⟩
abbrev S2x256 : Shape := ⟨2, ![2, 256]⟩
abbrev S4x1x256 : Shape := ⟨3, ![4, 1, 256]⟩
abbrev S4x256 : Shape := ⟨2, ![4, 256]⟩

abbrev nBuf : Space → Nat
  | .hbm => 4
  | .vmem => 5
  | .smem => 0
  | _ => 0

abbrev bufTy : (tb : Table) → Fin (tcTables nBuf tb) → BufTy
  | .hbm, ⟨0, _⟩ => ⟨S256x512, .f32⟩
  | .hbm, ⟨1, _⟩ => ⟨S512x4096, .f32⟩
  | .hbm, ⟨2, _⟩ => ⟨S256, .i32⟩
  | .hbm, ⟨3, _⟩ => ⟨S256, .f32⟩
  | .local _ .vmem, ⟨0, _⟩ => ⟨S256x512, .f32⟩
  | .local _ .vmem, ⟨1, _⟩ => ⟨S512x4096, .f32⟩
  | .local _ .vmem, ⟨2, _⟩ => ⟨S256, .i32⟩
  | .local _ .vmem, ⟨3, _⟩ => ⟨S256, .f32⟩
  | .local _ .vmem, ⟨4, _⟩ => ⟨S4x2x256, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_5 : BitVec 32 := 8#32
  let v12 : BitVec 32 := Scalar.muli v2 c8_i32_5
  let v13 : BitVec 32 := Scalar.addi c0_i32 v12
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_6 : BitVec 32 := 4#32
  let v14 : BitVec 32 := Scalar.muli v5 c4_i32_6
  let v15 : BitVec 32 := Scalar.addi v13 v14
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v10 : BitVec 32 := Scalar.addi v8 c1_i32_2
  let c4_i32_3 : BitVec 32 := 4#32
  let v11 : BitVec 32 := Scalar.remsi v10 c4_i32_3
  let c1_i32_7 : BitVec 32 := 1#32
  let v16 : BitVec 32 := Scalar.muli v11 c1_i32_7
  let v17 : BitVec 32 := Scalar.addi v15 v16
  v17.toNat
def k0_dev2 (d0 : Dev nD) : Nat :=
  let c0_i32_12 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_11 : BitVec 32 := 8#32
  let v20 : BitVec 32 := Scalar.muli v2 c8_i32_11
  let v21 : BitVec 32 := Scalar.addi c0_i32_12 v20
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_13 : BitVec 32 := 4#32
  let v22 : BitVec 32 := Scalar.muli v5 c4_i32_13
  let v23 : BitVec 32 := Scalar.addi v21 v22
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_8 : BitVec 32 := 2#32
  let v18 : BitVec 32 := Scalar.addi v8 c2_i32_8
  let c4_i32_9 : BitVec 32 := 4#32
  let v19 : BitVec 32 := Scalar.remsi v18 c4_i32_9
  let c1_i32_14 : BitVec 32 := 1#32
  let v24 : BitVec 32 := Scalar.muli v19 c1_i32_14
  let v25 : BitVec 32 := Scalar.addi v23 v24
  v25.toNat
def k0_dev3 (d0 : Dev nD) : Nat :=
  let c0_i32_18 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_17 : BitVec 32 := 8#32
  let v28 : BitVec 32 := Scalar.muli v2 c8_i32_17
  let v29 : BitVec 32 := Scalar.addi c0_i32_18 v28
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_19 : BitVec 32 := 4#32
  let v30 : BitVec 32 := Scalar.muli v5 c4_i32_19
  let v31 : BitVec 32 := Scalar.addi v29 v30
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v26 : BitVec 32 := Scalar.addi v8 c3_i32
  let c4_i32_15 : BitVec 32 := 4#32
  let v27 : BitVec 32 := Scalar.remsi v26 c4_i32_15
  let c1_i32_20 : BitVec 32 := 1#32
  let v32 : BitVec 32 := Scalar.muli v27 c1_i32_20
  let v33 : BitVec 32 := Scalar.addi v31 v32
  v33.toNat
def k0_off1 (d0 : Dev nD) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v53 : Index := Scalar.indexCast v8
  let c0_28 : Index := 0#32
  let c0_29 : Index := 0#32
  ![v53.toNat, 0, 0]
def k0_off2 (d0 : Dev nD) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v57 : Index := Scalar.indexCast v8
  let c1 : Index := 1#32
  let c0_30 : Index := 0#32
  ![v57.toNat, 1, 0]
def k0_off3 (d0 : Dev nD) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_40 : BitVec 32 := 0#32
  let c0_i32_41 : BitVec 32 := 0#32
  ![v8.toNat, 0, 0]
def k0_dev4 (d0 : Dev nD) : Nat :=
  let c0_i32_37 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_36 : BitVec 32 := 8#32
  let v63 : BitVec 32 := Scalar.muli v2 c8_i32_36
  let v64 : BitVec 32 := Scalar.addi c0_i32_37 v63
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_38 : BitVec 32 := 4#32
  let v65 : BitVec 32 := Scalar.muli v5 c4_i32_38
  let v66 : BitVec 32 := Scalar.addi v64 v65
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_32 : BitVec 32 := 3#32
  let v61 : BitVec 32 := Scalar.addi v8 c3_i32_32
  let c4_i32_33 : BitVec 32 := 4#32
  let v62 : BitVec 32 := Scalar.remsi v61 c4_i32_33
  let c1_i32_39 : BitVec 32 := 1#32
  let v67 : BitVec 32 := Scalar.muli v62 c1_i32_39
  let v68 : BitVec 32 := Scalar.addi v66 v67
  v68.toNat
def k0_dev5 (d0 : Dev nD) : Nat :=
  let c0_i32_49 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_48 : BitVec 32 := 8#32
  let v79 : BitVec 32 := Scalar.muli v2 c8_i32_48
  let v80 : BitVec 32 := Scalar.addi c0_i32_49 v79
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_50 : BitVec 32 := 4#32
  let v81 : BitVec 32 := Scalar.muli v5 c4_i32_50
  let v82 : BitVec 32 := Scalar.addi v80 v81
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_44 : BitVec 32 := 2#32
  let v77 : BitVec 32 := Scalar.addi v8 c2_i32_44
  let c4_i32_45 : BitVec 32 := 4#32
  let v78 : BitVec 32 := Scalar.remsi v77 c4_i32_45
  let c1_i32_51 : BitVec 32 := 1#32
  let v83 : BitVec 32 := Scalar.muli v78 c1_i32_51
  let v84 : BitVec 32 := Scalar.addi v82 v83
  v84.toNat
def k0_dev6 (d0 : Dev nD) : Nat :=
  let c0_i32_61 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_60 : BitVec 32 := 8#32
  let v95 : BitVec 32 := Scalar.muli v2 c8_i32_60
  let v96 : BitVec 32 := Scalar.addi c0_i32_61 v95
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_62 : BitVec 32 := 4#32
  let v97 : BitVec 32 := Scalar.muli v5 c4_i32_62
  let v98 : BitVec 32 := Scalar.addi v96 v97
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_56 : BitVec 32 := 1#32
  let v93 : BitVec 32 := Scalar.addi v8 c1_i32_56
  let c4_i32_57 : BitVec 32 := 4#32
  let v94 : BitVec 32 := Scalar.remsi v93 c4_i32_57
  let c1_i32_63 : BitVec 32 := 1#32
  let v99 : BitVec 32 := Scalar.muli v94 c1_i32_63
  let v100 : BitVec 32 := Scalar.addi v98 v99
  v100.toNat
def k0_off4 (d0 : Dev nD) (c1_i32_68 : BitVec 32) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v109 : BitVec 32 := Scalar.subi v8 c1_i32_68
  let c4_i32_69 : BitVec 32 := 4#32
  let v110 : BitVec 32 := Scalar.addi v109 c4_i32_69
  let c4_i32_70 : BitVec 32 := 4#32
  let v111 : BitVec 32 := Scalar.remsi v110 c4_i32_70
  let c0_i32_77 : BitVec 32 := 0#32
  let c0_i32_78 : BitVec 32 := 0#32
  ![v111.toNat, 0, 0]
abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S256x512 : Shape := ⟨2, ![256, 512]⟩
abbrev S512x16384 : Shape := ⟨2, ![512, 16384]⟩
abbrev S256 : Shape := ⟨1, ![256]⟩
abbrev S256x16384 : Shape := ⟨2, ![256, 16384]⟩
abbrev S_ : Shape := ⟨0, ![]⟩
abbrev S256x1 : Shape := ⟨2, ![256, 1]⟩
abbrev S256x2 : Shape := ⟨2, ![256, 2]⟩

abbrev nBuf : Space → Nat
  | .hbm => 36
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S512x16384, .f32⟩
  | .hbm, ⟨2, _⟩ => ⟨S256, .i32⟩
  | .hbm, ⟨3, _⟩ => ⟨S256x16384, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S256x16384, .f32⟩
  | .hbm, ⟨8, _⟩ => ⟨S256x16384, .f32⟩
  | .hbm, ⟨9, _⟩ => ⟨S256x16384, .f32⟩
  | .hbm, ⟨10, _⟩ => ⟨S_, .f32⟩
  | .hbm, ⟨11, _⟩ => ⟨S256, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256, .f32⟩
  | .hbm, ⟨16, _⟩ => ⟨S256, .i32⟩
  | .hbm, ⟨17, _⟩ => ⟨S_, .i32⟩
  | .hbm, ⟨18, _⟩ => ⟨S256, .i32⟩
  | .hbm, ⟨19, _⟩ => ⟨S256, .i1⟩
  | .hbm, ⟨20, _⟩ => ⟨S_, .i32⟩
  | .hbm, ⟨21, _⟩ => ⟨S256, .i32⟩
  | .hbm, ⟨22, _⟩ => ⟨S256, .i32⟩
  | .hbm, ⟨23, _⟩ => ⟨S256, .i32⟩
  | .hbm, ⟨24, _⟩ => ⟨S_, .i32⟩
  | .hbm, ⟨25, _⟩ => ⟨S256, .i32⟩
  | .hbm, ⟨26, _⟩ => ⟨S256, .i1⟩
  | .hbm, ⟨27, _⟩ => ⟨S_, .i32⟩
  | .hbm, ⟨28, _⟩ => ⟨S256, .i32⟩
  | .hbm, ⟨29, _⟩ => ⟨S256, .i32⟩
  | .hbm, ⟨30, _⟩ => ⟨S256, .i32⟩
  | .hbm, ⟨31, _⟩ => ⟨S256x1, .i32⟩
  | .hbm, ⟨32, _⟩ => ⟨S256x1, .i32⟩
  | .hbm, ⟨33, _⟩ => ⟨S256x2, .i32⟩
  | .hbm, ⟨34, _⟩ => ⟨S256, .f32⟩
  | .hbm, ⟨35, _⟩ => ⟨S256, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_2 : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Proof.Mesh.lean ====
/-
The devices, the semaphores and the slabs.

Sixteen devices, numbered `8x + 4y + z`. The four devices that share `x` and `y` form a group; they differ in `z`, and the
device of `z` owns slab `z` of the gather buffer (`4 × 2 × 256`: one slab per member, a row of sums and a row of label
logits in each). This module names a device's partners, the seven semaphores it uses and the elements of each slab.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.ShareLeaves
public import Idealize.ShloMosaic.Lib.Tactic

@[expose] public section

noncomputable section

namespace Cert.CrossEntropy

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Partners -/

/-- The place of `c` in its group: its `z` coordinate. -/
def zc (c : Dev nD) : Fin 4 := ⟨c.val % 4, Nat.mod_lt _ (by decide)⟩

set_option backward.proofsInPublic true in
/-- The member of `c`'s group at place `k`. -/
def memb (c : Dev nD) (k : Fin 4) : Dev nD :=
  ⟨4 * (c.val / 4) + k.val, by have := c.isLt; have := k.isLt; simp only [nD] at *; omega⟩

/-- The partner `d + 1` places further in the group, wrapping round. -/
def peer (c : Dev nD) (d : Fin 3) : Dev nD := memb c (zc c + d.castSucc + 1)

/-- The partner `d + 1` places back. -/
abbrev back (c : Dev nD) (d : Fin 3) : Dev nD := peer c d.rev

theorem back_peer : ∀ (c : Dev nD) (d : Fin 3), back (peer c d) d = c := by decide
theorem peer_back : ∀ (c : Dev nD) (d : Fin 3), peer (back c d) d = c := by decide
theorem memb_peer : ∀ (c : Dev nD) (d : Fin 3) (k : Fin 4), memb (peer c d) k = memb c k := by decide
theorem memb_self : ∀ c : Dev nD, memb c (zc c) = c := by decide
theorem zc_memb : ∀ (c : Dev nD) (k : Fin 4), zc (memb c k) = k := by decide
theorem zc_ne_peer : ∀ (c : Dev nD) (d : Fin 3), zc (peer c d) ≠ zc c := by decide

/-- Going `d + 1` places on is a permutation of the devices. -/
def turn (d : Fin 3) : Dev nD ≃ Dev nD := ⟨fun c => peer c d, fun c => back c d, fun c => back_peer c d, fun c => peer_back c d⟩

theorem eq_peer_iff (c b : Dev nD) (d : Fin 3) : Iff (b = peer c d) (c = back b d) :=
  ⟨fun h => by rw [h, back_peer], fun h => by rw [h, peer_back]⟩

/-- The devices the program addresses: the three signals, then the three copies in the opposite order. -/
theorem dev1_eq : ∀ c : Dev nD, (⟨k0_dev1 c, k0_dev1_lt c⟩ : Dev nD) = peer c 0 := by decide +kernel
theorem dev2_eq : ∀ c : Dev nD, (⟨k0_dev2 c, k0_dev2_lt c⟩ : Dev nD) = peer c 1 := by decide +kernel
theorem dev3_eq : ∀ c : Dev nD, (⟨k0_dev3 c, k0_dev3_lt c⟩ : Dev nD) = peer c 2 := by decide +kernel
theorem dev4_eq : ∀ c : Dev nD, (⟨k0_dev4 c, k0_dev4_lt c⟩ : Dev nD) = peer c 2 := by decide +kernel
theorem dev5_eq : ∀ c : Dev nD, (⟨k0_dev5 c, k0_dev5_lt c⟩ : Dev nD) = peer c 1 := by decide +kernel
theorem dev6_eq : ∀ c : Dev nD, (⟨k0_dev6 c, k0_dev6_lt c⟩ : Dev nD) = peer c 0 := by decide +kernel

/-! ## Semaphores -/

/-- The barrier semaphore that the runtime keeps for this kernel. -/
abbrev barS : Sem sig := (SemArray.scalar (sig.barrier 0 rfl) : Sems sig S_).sem

theorem inb_one (d : Fin 3) : ∀ a, (![d.val] : Fin 1 → Nat) a + S1.size a ≤ S3.size a := by revert d; decide

/-- Entry `d` of an array of three semaphores. -/
abbrev entry (a : DmaSems sig S3) (d : Fin 3) : DmaSem sig :=
  ((a.slice (Rect.unit (s := S3) ![d.val] S1.size (inb_one d))).squeeze S_ squeezes_S1_S_).sem

abbrev sendS (d : Fin 3) : DmaSem sig := entry cc0_scratch1 d
abbrev recvS (d : Fin 3) : DmaSem sig := entry cc0_scratch2 d

/-- The seven semaphores of a device: the barrier, three for its copies out, three for the copies in. -/
abbrev CK : Type := Unit ⊕ (Fin 3 ⊕ Fin 3)

abbrev csem : CK → SemLoc sig
  | .inl _ => .reg barS
  | .inr (.inl d) => .dma (sendS d)
  | .inr (.inr d) => .dma (recvS d)

/-- Which of the seven a semaphore is, if any. -/
def ckOf : SemLoc sig → Option CK
  | .reg _ => some (.inl ())
  | .dma q => if h : 7 ≤ q.val then some (.inr (.inr ⟨q.val - 7, by have : q.val < 10 := q.isLt; omega⟩))
      else if h' : 4 ≤ q.val then some (.inr (.inl ⟨q.val - 4, by omega⟩)) else none

theorem ckOf_csem : ∀ k : CK, ckOf (csem k) = some k := by decide

theorem csem_injective : Function.Injective csem := fun a b h => by
  have := (ckOf_csem a).symm.trans ((congrArg ckOf h).trans (ckOf_csem b)); exact Option.some.inj this

abbrev kcell (ck : Dev nD × CK) : GSem nD τ sig := ((ck.1 : Thread nD τ), csem ck.2)
abbrev barCell (c : Dev nD) : GSem nD τ sig := ((c : Thread nD τ), .reg barS)
abbrev sendCell (c : Dev nD) (d : Fin 3) : GSem nD τ sig := ((c : Thread nD τ), .dma (sendS d))
abbrev recvCell (c : Dev nD) (d : Fin 3) : GSem nD τ sig := ((c : Thread nD τ), .dma (recvS d))

theorem kcell_injective : Function.Injective (kcell : Dev nD × CK → GSem nD τ sig) := by
  rintro ⟨c, k⟩ ⟨c', k'⟩ h
  have h1 : c = c' := congrArg (fun g : GSem nD τ sig => g.1.1) h
  have h2 : k = k' := csem_injective (congrArg Prod.snd h)
  rw [h1, h2]

theorem kcell_eq_iff {c c' : Dev nD} {k k' : CK} : Iff (kcell (c, k) = kcell (c', k')) (c = c' ∧ k = k') :=
  ⟨fun h => Prod.mk.inj (kcell_injective h), fun h => by rw [h.1, h.2]⟩

/-! ## Slabs -/

/-- The gather buffer, whole. -/
abbrev gM : Memref sig .tc .vmem S4x2x256 .f32 := Memref.whole cc0_scratch0

theorem inb_slab (k : Fin 4) : ∀ a, (![k.val, 0, 0] : Fin 3 → Nat) a + S1x2x256.size a ≤ S4x2x256.size a := by revert k; decide

/-- Slab `k` of the gather buffer, as the copies address it. -/
abbrev slab (k : Fin 4) : Memref sig .tc .vmem S2x256 .f32 :=
  (gM.slice (Rect.unit (s := S4x2x256) ![k.val, 0, 0] S1x2x256.size (inb_slab k)) (fun _ => rfl)).squeeze S2x256 squeezes_S1x2x256_S2x256

/-- The elements of slab `k`: those whose first coordinate is `k`. -/
def slabSet (k : Fin 4) : Finset S4x2x256.Idx := Finset.univ.filter fun i => (i 0).val = k.val

theorem mem_slabSet {k : Fin 4} {i : S4x2x256.Idx} : Iff (i ∈ slabSet k) ((i 0).val = k.val) := by
  unfold slabSet; rw [Finset.mem_filter]; exact ⟨fun h => h.2, fun h => ⟨Finset.mem_univ _, h⟩⟩

theorem slab_set (k : Fin 4) : (slab k).view.set = slabSet k := by
  have h : (slab k).view.set = (Rect.unit (s := S4x2x256) ![k.val, 0, 0] S1x2x256.size (inb_slab k)).set :=
    (View.set_reshape _ _).trans (View.set_slice_whole _ _)
  rw [h]; ext i
  rw [Rect.mem_set_unit, mem_slabSet]
  have h1 : (i 1).val < 2 := (i 1).isLt
  have h2 : (i 2).val < 256 := (i 2).isLt
  constructor
  · intro h; have := h 0; simp at this; omega
  · intro h a; fin_cases a <;> simp <;> omega

theorem slab_disjoint (k k' : Fin 4) (h : k ≠ k') : Disjoint (slabSet k) (slabSet k') :=
  Finset.disjoint_left.mpr fun i hi hi' => h (Fin.ext ((mem_slabSet.mp hi).symm.trans (mem_slabSet.mp hi')))

theorem slab_cover : Finset.univ.biUnion slabSet = (Finset.univ : Finset S4x2x256.Idx) :=
  Finset.eq_univ_of_forall fun i => Finset.mem_biUnion.mpr ⟨i 0, Finset.mem_univ _, mem_slabSet.mpr rfl⟩

/-- What one copy of a slab adds to the semaphores it names. -/
abbrev N : ℕ := (slab 0).view.dmaCredit
theorem N_pos : 0 < N := View.dmaCredit_pos _ (by decide)
theorem N_eq (k : Fin 4) : (slab k).view.dmaCredit = N := rfl

/-- The same slab, by the two ways the program computes its place. -/
theorem off3_slab (c : Dev nD) : k0_off3 c = ![(zc c).val, 0, 0] := k0_off3_eq c
theorem off4_slab : ∀ (c : Dev nD) (d : Fin 3), k0_off4 c (BitVec.ofNat 32 (1 + d.val)) = ![(zc (back c d)).val, 0, 0] := by decide +kernel

end Cert.CrossEntropy

end
-- ==== Proof.Schedule.lean ====
/-
Who pays which semaphore, what passes with each payment, and what every device owes at the start.

Device `c` gives three signals: the one to its partner `peer c d` lets that partner write slab `zc (peer c d)` of `c`'s
buffer. Once all three of its partners have signalled it, `c` copies its own slab to each of them; every device then holds
the same four slabs, `gath c`.
-/
module

public import proofs.«01_k».proof.Proof.Mesh

@[expose] public section

noncomputable section

namespace Cert.CrossEntropy

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 3)
abbrev UU : Type := UR sig nD τ × UB
local notation "𝕄" => MT nD τ sig Unit (Elt F) ℕ UU ℕ
abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Contents -/

/-- Device `c`'s operands as the kernel finds them: `x`, its columns of `W`, the labels. -/
def xIn (c : Dev nD) : (cc0_stg0_0 : Ref sig .tc).ty.Contents (Elt F) :=
  (win0_0.blk (0 : Fin 1)).view.read (Elt F) (m ((c : Thread nD τ).loc main_arg0))
def wIn (c : Dev nD) : (cc0_stg1_0 : Ref sig .tc).ty.Contents (Elt F) :=
  (win0_1.blk (0 : Fin 1)).view.read (Elt F) (m ((c : Thread nD τ).loc main_arg1))
def labIn (c : Dev nD) : (cc0_stg2_0 : Ref sig .tc).ty.Contents (Elt F) :=
  (win0_2.blk (0 : Fin 1)).view.read (Elt F) (m ((c : Thread nD τ).loc main_arg2))

/-- `c`'s place in its group, as the program computes it. -/
abbrev zWord (c : Dev nD) : BitVec 32 := Scalar.remsi (Scalar.divsi (Dev.word c) 1#32) 4#32

/-- The two rows of `c`'s slab: the sums of exponentials, and the logit at the label if it is among `c`'s columns. -/
def sumRow (c : Dev nD) : FVec F S1x1x256 .f32 := k0_pay3 (xIn m c) (wIn m c)
def labRow (c : Dev nD) : FVec F S1x1x256 .f32 := k0_pay4 (zWord c) (xIn m c) (wIn m c) (labIn m c)

/-- The place of a batch row in a `1 × 1 × 256` vector. -/
abbrev atRow (n : Fin 256) : S1x1x256.Idx := fun a => match a with | 0 => (0 : Fin 1) | 1 => (0 : Fin 1) | 2 => n

/-- The gather buffer complete: slab `k` holds the two rows of the group's member at `k`. -/
def gath (c : Dev nD) : Buf (Elt F) ((c : Thread nD τ).loc cc0_scratch0) :=
  fun i : S4x2x256.Idx => if (i 1).val = 0 then sumRow m (memb c (i 0)) (atRow (i 2)) else labRow m (memb c (i 0)) (atRow (i 2))

omit [FloatOps F] in
theorem gath_peer [FloatOps F] (c : Dev nD) (d : Fin 3) : gath m (peer c d) = gath m c := by
  have h : memb (peer c d) = memb c := funext (memb_peer c d)
  unfold gath; rw [h]

/-- Slab `k` of device `c`'s buffer, at the share `q`. -/
def slabPts (c : Dev nD) (k : Fin 4) (q : PosShare TreeShare) (f : Buf (Elt F) ((c : Thread nD τ).loc cc0_scratch0)) : sProp 𝕄 :=
  ((c : Thread nD τ).loc cc0_scratch0) ↦[slabSet k]{q} f

omit [FloatOps F] in
instance slabPts_storable (c : Dev nD) (k : Fin 4) (q : PosShare TreeShare) (f) : BI.Storable (upEmb : UEmb _ 𝕄) (slabPts (F := F) c k q f) := by
  unfold slabPts; infer_instance

/-- The part of a slab's share that copy `d` reads through; part 3 stays with the device. -/
abbrev part (i : Fin 4) : PosShare TreeShare := ShareLeaves.leaf 2 fullShare i

omit [FloatOps F] in
theorem slab_parts (c : Dev nD) (k : Fin 4) (f : Buf (Elt F) ((c : Thread nD τ).loc cc0_scratch0)) :
    slabPts (F := F) c k fullShare f
      = iprop(slabPts c k (part 0) f ∗ slabPts c k (part 1) f ∗ slabPts c k (part 2) f ∗ slabPts c k (part 3) f) := by
  unfold slabPts
  rw [ShareLeaves.pointsTo_leaves (slabSet k) f 2 fullShare]
  exact bigSep_univ_eq_bigSepL [0, 1, 2, 3] (by decide) (by decide) _

theorem slabs_univ : ∀ c : Dev nD, (Finset.univ : Finset (Fin 4)) = [zc c, zc (peer c 0), zc (peer c 1), zc (peer c 2)].toFinset := by decide
theorem slabs_nodup : ∀ c : Dev nD, [zc c, zc (peer c 0), zc (peer c 1), zc (peer c 2)].Nodup := by decide

omit [FloatOps F] in
/-- The whole buffer is its four slabs: the device's own and its partners'. -/
theorem whole_slabs (c : Dev nD) (q : PosShare TreeShare) (f : Buf (Elt F) ((c : Thread nD τ).loc cc0_scratch0)) :
    (((c : Thread nD τ).loc cc0_scratch0) ↦{q} f : sProp 𝕄)
      = iprop(slabPts c (zc c) q f ∗ slabPts c (zc (peer c 0)) q f ∗ slabPts c (zc (peer c 1)) q f ∗ slabPts c (zc (peer c 2)) q f) := by
  have h : (((c : Thread nD τ).loc cc0_scratch0) ↦{q} f : sProp 𝕄) = bigSep Finset.univ fun k : Fin 4 => slabPts c k q f := by
    unfold slabPts
    rw [← pointsTo_biUnion (ℓ := (c : Thread nD τ).loc cc0_scratch0) (q := q) (f := f) Finset.univ slabSet (fun k _ k' _ hk => slab_disjoint k k' hk), slab_cover]
  rw [h]
  exact bigSep_univ_eq_bigSepL [zc c, zc (peer c 0), zc (peer c 1), zc (peer c 2)] (slabs_univ c) (slabs_nodup c) _

/-! ## The schedule -/

/-- With the signal of `back c d`, device `c` receives the right to write its own slab in that device's buffer. -/
def barPay (c : Dev nD) (d : Fin 3) : sProp 𝕄 := iprop(∃ f, slabPts (back c d) (zc c) fullShare f)
/-- With copy `d` complete at its source, `c` has the share of its slab back. -/
def sendPay (c : Dev nD) (d : Fin 3) : sProp 𝕄 := slabPts c (zc c) (part d.castSucc) (gath m c)
/-- With copy `d` landed, `c` has the slab of `back c d`. -/
def recvPay (c : Dev nD) (d : Fin 3) : sProp 𝕄 := slabPts c (zc (back c d)) fullShare (gath m c)

def dutiesK : CK → Finset (Fin 3)
  | .inl _ => Finset.univ
  | .inr _ => {0}
def amountK : CK → ℕ
  | .inl _ => 1
  | .inr _ => N
def payK (c : Dev nD) : CK → Fin 3 → sProp 𝕄
  | .inl _, d => barPay c d
  | .inr (.inl e), _ => sendPay m c e
  | .inr (.inr e), _ => recvPay m c e

theorem amountK_pos (k : CK) : 0 < amountK k := by cases k; · exact Nat.one_pos
                                                   · exact N_pos

/-- The whole exchange is one round. -/
def plan : Rounds.Schedule (GSem nD τ sig) (Fin 3) 𝕄 where
  duties g r := if r = 0 ∧ g.1.2 = .tc then (ckOf g.2).elim ∅ dutiesK else ∅
  unitless _ := False
  amount g _ _ := (ckOf g.2).elim 1 amountK
  payload g _ d := (ckOf g.2).elim iprop(emp) fun k => payK m g.1.1 k d
  amount_pos g _ _ _ := by
    rcases ckOf g.2 with _ | k
    · exact Nat.one_pos
    · exact amountK_pos k

instance plan_payload_storable (g : GSem nD τ sig) (r : ℕ) (d : Fin 3) :
    BI.Storable (upEmb : UEmb _ 𝕄) ((plan (F := F) m).payload g r d) := by
  show BI.Storable upEmb ((ckOf g.2).elim iprop(emp) fun k => payK m g.1.1 k d)
  rcases ckOf g.2 with _ | (_ | _ | _)
  · exact (inferInstance : BI.Storable (upEmb : UEmb _ 𝕄) iprop(emp))
  · show BI.Storable upEmb (barPay _ _); unfold barPay; infer_instance
  · show BI.Storable upEmb (sendPay m _ _); unfold sendPay; infer_instance
  · show BI.Storable upEmb (recvPay m _ _); unfold recvPay; infer_instance

section Plan
variable (c : Dev nD) (k : CK)

theorem plan_duties : (plan (F := F) m).duties (kcell (c, k)) 0 = dutiesK k := by
  dsimp only [plan, kcell]; rw [if_pos ⟨rfl, rfl⟩, ckOf_csem]; rfl
theorem plan_later (g : GSem nD τ sig) : ∀ r, 1 ≤ r → (plan (F := F) m).duties g r = ∅ :=
  fun r hr => by dsimp only [plan]; rw [if_neg fun h => by omega]
theorem plan_amount (d : Fin 3) : (plan (F := F) m).amount (kcell (c, k)) 0 d = amountK k := by
  dsimp only [plan, kcell]; rw [ckOf_csem]; rfl
theorem plan_payload (d : Fin 3) : (plan (F := F) m).payload (kcell (c, k)) 0 d = payK m c k d := by
  dsimp only [plan, kcell]; rw [ckOf_csem]; rfl
theorem plan_expect : (plan (F := F) m).expect (kcell (c, k)) 0 = (dutiesK k).card * amountK k := by
  unfold Schedule.expect Schedule.amountOf
  rw [plan_duties, Finset.sum_congr rfl fun d _ => plan_amount m c k d, Finset.sum_const, smul_eq_mul]
/-- What a device takes away when it waits for a semaphore's whole round. -/
theorem plan_rest : bigSep ((plan (F := F) m).duties (kcell (c, k)) 0 \ ∅) (fun d => (plan (F := F) m).payload (kcell (c, k)) 0 d)
    = bigSep (dutiesK k) (payK m c k) := by
  rw [Finset.sdiff_empty, plan_duties]; exact bigSep_congr fun d _ => plan_payload m c k d

end Plan

/-! ## What a device owes at the start, and the levels -/

/-- The credit of the copies, the last summand the first copy's. -/
def owedCopies (c : Dev nD) : CellTallies nD τ sig Unit :=
  0 + tallyAt (recvCell (peer c 0) 0) () N + tallyAt (recvCell (peer c 1) 1) () N + tallyAt (recvCell (peer c 2) 2) () N
/-- That and the three signals, the last summand the first signal's. -/
def owed (c : Dev nD) : CellTallies nD τ sig Unit :=
  owedCopies c + tallyAt (barCell (peer c 2)) () 1 + tallyAt (barCell (peer c 1)) () 1 + tallyAt (barCell (peer c 0)) () 1

def lvK : CK → ℕ
  | .inl _ => 1
  | .inr (.inl _) => 0
  | .inr (.inr _) => 2

def L (g : GSem nD τ sig) : Finset Unit := if g.1.2 = .tc then {()} else ∅
/-- Copies out (and the staging of operands) at 0, barriers at 1, copies in at 2. -/
def lv (g : GSem nD τ sig) (_ : Unit) : ℕ := (ckOf g.2).elim 0 lvK

theorem L_of_ne (g : GSem nD τ sig) (h : g.1.2 ≠ .tc) : L g = ∅ := if_neg h
theorem L_tc (c : Dev nD) (sm : SemLoc sig) : L ((c : Thread nD τ), sm) = {()} := if_pos rfl
theorem lv_kcell (c : Dev nD) (k : CK) : lv (kcell (c, k)) () = lvK k := by unfold lv; rw [ckOf_csem]; rfl

theorem tally_pos {g g' : GSem nD τ sig} {u : Unit} {n : ℕ} (h : 0 < (tallyAt g' () n : CellTallies nD τ sig Unit) g u) : g = g' := by
  rw [tallyAt_apply] at h; by_contra hn; rw [if_neg fun h' => hn h'.1] at h; exact Nat.lt_irrefl 0 h

theorem add_pos_iff {A B : CellTallies nD τ sig Unit} {g : GSem nD τ sig} {u : Unit} (h : 0 < (A + B) g u) : 0 < A g u ∨ 0 < B g u := by
  rw [Pi.add_apply, Finsupp.add_apply] at h; omega

theorem owedCopies_pos {c : Dev nD} {g : GSem nD τ sig} {u : Unit} (h : 0 < owedCopies c g u) : ∃ d, g = recvCell (peer c d) d := by
  unfold owedCopies at h
  rcases add_pos_iff h with h | h
  · rcases add_pos_iff h with h | h
    · rcases add_pos_iff h with h | h
      · exact absurd h (Nat.lt_irrefl 0)
      · exact ⟨0, tally_pos h⟩
    · exact ⟨1, tally_pos h⟩
  · exact ⟨2, tally_pos h⟩

theorem owed_pos {c : Dev nD} {g : GSem nD τ sig} {u : Unit} (h : 0 < owed c g u) :
    (∃ d, g = recvCell (peer c d) d) ∨ ∃ d, g = barCell (peer c d) := by
  unfold owed at h
  rcases add_pos_iff h with h | h
  · rcases add_pos_iff h with h | h
    · rcases add_pos_iff h with h | h
      · exact .inl (owedCopies_pos h)
      · exact .inr ⟨2, tally_pos h⟩
    · exact .inr ⟨1, tally_pos h⟩
  · exact .inr ⟨0, tally_pos h⟩

omit [FloatOps F] in
/-- A device may wait on a semaphore below everything it owes. -/
theorem mayWait_below (c : Dev nD) (sm : SemLoc sig) (O : CellTallies nD τ sig Unit)
    (h : ∀ g u, 0 < O g u → ∃ ck, g = kcell ck ∧ lv ((c : Thread nD τ), sm) () < lvK ck.2) :
    (levAts L lv : sProp 𝕄) ⊢ MayWait (c : Thread nD τ) sm () O := by
  refine MayOwe.of_cut (L := L) (lev := lv) (lv ((c : Thread nD τ), sm) ()) (fun p hp => by rw [Finset.mem_singleton.mp hp, L_tc]; exact Finset.mem_singleton_self _)
    (fun g u hg => ?_) (fun p hp => by rw [Finset.mem_singleton.mp hp]) (fun g u hg => ?_)
  · obtain ⟨ck, rfl, -⟩ := h g u hg; rw [L_tc]; exact Finset.mem_singleton_self _
  · obtain ⟨ck, rfl, hl⟩ := h g u hg; exact lt_of_lt_of_eq hl (lv_kcell ck.1 ck.2).symm

omit [FloatOps F] in
/-- The staging of operands is below everything a device owes, -/
theorem mayWait_stage (c : Dev nD) (q : DmaSem sig) (hq : ckOf (.dma q) = none) (O : CellTallies nD τ sig Unit) (hO : O = owed c ∨ O = 0) :
    (levAts L lv : sProp 𝕄) ⊢ MayWait (c : Thread nD τ) (.dma q) () O := by
  rcases hO with rfl | rfl
  · refine mayWait_below c _ _ fun g u hg => ?_
    have h0 : lv ((c : Thread nD τ), .dma q) () = 0 := by unfold lv; rw [hq]; rfl
    rw [h0]
    rcases owed_pos hg with ⟨d, rfl⟩ | ⟨d, rfl⟩
    · exact ⟨(peer c d, .inr (.inr d)), rfl, (by decide : 0 < 2)⟩
    · exact ⟨(peer c d, .inl ()), rfl, (by decide : 0 < 1)⟩
  · rw [MayWait_zero]; iintro -; iempintro

omit [FloatOps F] in
/-- and the barrier is below the copies. -/
theorem mayWait_bar (c : Dev nD) : (levAts L lv : sProp 𝕄) ⊢ MayWait (c : Thread nD τ) (.reg barS) () (owedCopies c) :=
  mayWait_below c _ _ fun g u hg => by
    obtain ⟨d, rfl⟩ := owedCopies_pos hg
    exact ⟨(peer c d, .inr (.inr d)), rfl, by rw [show ((c : Thread nD τ), SemLoc.reg barS) = kcell (c, .inl ()) from rfl, lv_kcell]; exact (by decide : 1 < 2)⟩

end Cert.CrossEntropy

end
-- ==== Proof.Contents.lean ====
/-
What the kernel's stores, copies and loads do to the contents of its buffers.
-/
module

public import proofs.«01_k».proof.Proof.Schedule

@[expose] public section

noncomputable section

namespace Cert.CrossEntropy

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The two rows of a slab -/

/-- Row `e` of slab `k`. -/
abbrev rowRect (off : Fin 3 → Nat) (inb : ∀ a, off a + S1x1x256.size a ≤ S4x2x256.size a) : Rect S4x2x256 :=
  Rect.unit (s := S4x2x256) off S1x1x256.size inb

theorem mem_row {off : Fin 3 → Nat} {inb} (k : Fin 4) (e : Fin 2) (h : off = ![k.val, e.val, 0]) (i : S4x2x256.Idx) :
    Iff (i ∈ (rowRect off inb).set) ((i 0).val = k.val ∧ (i 1).val = e.val) := by
  subst h
  rw [Rect.mem_set_unit]
  have h2 : (i 2).val < 256 := (i 2).isLt
  constructor
  · intro h; have h0 := h 0; have h1 := h 1; simp at h0 h1; omega
  · intro h a; fin_cases a <;> simp <;> omega

theorem row_set {off : Fin 3 → Nat} {inb} : (gM.access (rowRect off inb)).set = (rowRect off inb).set := View.set_slice_whole _ _

/-- A row lies in its slab: what a store to it needs, -/
theorem row_store {off : Fin 3 → Nat} {inb} (k : Fin 4) (e : Fin 2) (h : off = ![k.val, e.val, 0]) :
    (gM.access (rowRect off inb)).setOn Finset.univ ⊆ slabSet k := by
  rw [View.setOn_univ, row_set]
  exact fun i hi => mem_slabSet.mpr ((mem_row k e h i).mp hi).1

/-- and a load of it. -/
theorem row_load {off : Fin 3 → Nat} {inb} (k : Fin 4) (e : Fin 2) (h : off = ![k.val, e.val, 0]) :
    (gM.access (rowRect off inb)).set ⊆ slabSet k := row_store k e h

/-- What a store of a row leaves. -/
theorem row_write {off : Fin 3 → Nat} {inb} (k : Fin 4) (e : Fin 2) (h : off = ![k.val, e.val, 0])
    (f : S4x2x256.Idx → Elt F .f32) (w : FVec F S1x1x256 .f32) (i : S4x2x256.Idx) :
    (gM.access (rowRect off inb)).write (Elt F) f w Finset.univ i
      = if (i 0).val = k.val ∧ (i 1).val = e.val then w (atRow (i 2)) else f i := by
  by_cases hi : (i 0).val = k.val ∧ (i 1).val = e.val
  · rw [if_pos hi]
    have hx : (gM.access (rowRect off inb)).emb (atRow (i 2)) = i := by
      subst h
      funext a; apply Fin.ext
      show (((rowRect ![k.val, e.val, 0] inb).emb (atRow (i 2))) a).val = (i a).val
      rw [Rect.emb_apply]
      fin_cases a <;> simp [hi.1, hi.2]
      rfl
    conv_lhs => rw [← hx]
    exact View.write_emb_of_mem _ _ (Finset.mem_univ _)
  · rw [if_neg hi]
    refine View.write_of_not_mem _ _ _ fun hm => hi ?_
    rw [View.setOn_univ, row_set] at hm
    exact (mem_row k e h i).mp hm

/-- After both stores a device's own slab is what the complete buffer holds there. -/
theorem own_slab (c : Dev nD) {o1 o2 : Fin 3 → Nat} {i1 i2} (h1 : o1 = ![(zc c).val, 0, 0]) (h2 : o2 = ![(zc c).val, 1, 0])
    (f : Buf (Elt F) ((c : Thread nD τ).loc cc0_scratch0)) (i : S4x2x256.Idx) (hi : i ∈ slabSet (zc c)) :
    (gM.access (rowRect o2 i2)).write (Elt F) ((gM.access (rowRect o1 i1)).write (Elt F) f (sumRow m c) Finset.univ) (labRow m c) Finset.univ i
      = gath m c i := by
  have h0 : (i 0).val = (zc c).val := mem_slabSet.mp hi
  have hm : memb c (i 0) = c := by
    rw [show (i 0 : Fin 4) = zc c from Fin.ext h0]; exact memb_self c
  rw [row_write (zc c) (1 : Fin 2) h2, row_write (zc c) (0 : Fin 2) h1]
  unfold gath; rw [hm]
  have hlt : (i 1).val < 2 := (i 1).isLt
  by_cases he : (i 1).val = 0
  · rw [if_neg (fun h => by have := h.2; simp at this; omega), if_pos ⟨h0, he⟩, if_pos he]
  · rw [if_pos ⟨h0, by simp; omega⟩, if_neg he]

/-- A copy of a slab to the same slab of another device leaves the source's contents there. -/
theorem copied (k : Fin 4) (fd fs : S4x2x256.Idx → Elt F .f32) (i : S4x2x256.Idx) (hi : i ∈ slabSet k) :
    (slab k).view.write (Elt F) fd ((slab k).view.read (Elt F) fs) Finset.univ i = fs i := by
  rw [View.write_read_eq_piecewise]
  exact Finset.piecewise_eq_of_mem _ _ _ (by rw [View.setOn_univ, slab_set]; exact hi)

/-! ## The loads and the last store -/

abbrev rX : Rect S256x512 := Rect.unit (s := S256x512) ![0, 0] S256x512.size inb_S256x512_S256x512_0_0
abbrev rW : Rect S512x4096 := Rect.unit (s := S512x4096) ![0, 0] S512x4096.size inb_S512x4096_S512x4096_0_0
abbrev rV : Rect S256 := Rect.unit (s := S256) ![0] S256.size inb_S256_S256_0

theorem zero1 : (![0] : Fin 1 → Nat) = fun _ => 0 := funext fun a => by fin_cases a; rfl
theorem zero2 : (![0, 0] : Fin 2 → Nat) = fun _ => 0 := funext fun a => by fin_cases a <;> rfl

theorem read_x (f : (cc0_stg0_0 : Ref sig .tc).ty.Contents (Elt F)) :
    (Memref.whole cc0_stg0_0 : Memref sig .tc .vmem S256x512 .f32).view.readAt (Elt F) rX.toLoadRect f = f :=
  Memref.readAt_unit_zero (Elt F) cc0_stg0_0 zero2 _ f
theorem read_w (f : (cc0_stg1_0 : Ref sig .tc).ty.Contents (Elt F)) :
    (Memref.whole cc0_stg1_0 : Memref sig .tc .vmem S512x4096 .f32).view.readAt (Elt F) rW.toLoadRect f = f :=
  Memref.readAt_unit_zero (Elt F) cc0_stg1_0 zero2 _ f
theorem read_lab (f : (cc0_stg2_0 : Ref sig .tc).ty.Contents (Elt F)) :
    (Memref.whole cc0_stg2_0 : Memref sig .tc .vmem S256 .i32).view.readAt (Elt F) rV.toLoadRect f = f :=
  Memref.readAt_unit_zero (Elt F) cc0_stg2_0 zero1 _ f
theorem write_out (f w : (cc0_stg3_0 : Ref sig .tc).ty.Contents (Elt F)) :
    ((Memref.whole cc0_stg3_0 : Memref sig .tc .vmem S256 .f32).access rV : View sig .tc _ _ _).write (Elt F) f w Finset.univ = w :=
  Memref.write_access_unit_zero_univ (Elt F) cc0_stg3_0 zero1 _ f w

/-- The four members' rows `e`, as the kernel loads them. -/
abbrev rG0 : Rect S4x2x256 := Rect.unit (s := S4x2x256) ![0, 0, 0] S4x1x256.size inb_S4x2x256_S4x1x256_0_0_0
abbrev rG1 : Rect S4x2x256 := Rect.unit (s := S4x2x256) ![0, 1, 0] S4x1x256.size inb_S4x2x256_S4x1x256_0_1_0
def sums (c : Dev nD) : Vec F S4x1x256 .f32 := gM.view.readAt (Elt F) rG0.toLoadRect (gath m c)
def labs (c : Dev nD) : Vec F S4x1x256 .f32 := gM.view.readAt (Elt F) rG1.toLoadRect (gath m c)

/-- The kernel's result on device `c`. -/
def outAt (c : Dev nD) : (cc0_stg3_0 : Ref sig .tc).ty.Contents (Elt F) := k0_pay1 (k0_pay5 (sums m c)) (k0_pay6 (labs m c))

end Cert.CrossEntropy

end
-- ==== Proof.Steps.lean ====
/-
The kernel's exchanges, each as one step stated for any of its three partners: the signal, the copy, the two waits.

Everything every device may rely on throughout is `shared`: the invariant of each of the sixteen devices' seven
semaphores, and that each is at its first round.
-/
module

public import proofs.«01_k».proof.Proof.Contents

@[expose] public section

noncomputable section

namespace Cert.CrossEntropy

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## What is shared -/

def shared (K : Dev nD × CK → ℕ) : sProp 𝕄 :=
  iprop((bigSep Finset.univ fun ck : Dev nD × CK => cellInv ER (plan m) (K ck) (kcell ck))
    ∗ bigSep Finset.univ fun ck : Dev nD × CK => reached ER (kcell ck) 0)

instance shared_persistent (K : Dev nD × CK → ℕ) : BI.Persistent (shared m K) := by unfold shared; infer_instance

variable (K : Dev nD × CK → ℕ)

theorem shared_inv (ck : Dev nD × CK) : shared m K ⊢ cellInv ER (plan m) (K ck) (kcell ck) :=
  sep_elim_left.trans (bigSep_elim (Finset.mem_univ ck))
theorem shared_reached (ck : Dev nD × CK) : shared m K ⊢ (reached ER (kcell ck) 0 : sProp 𝕄) :=
  sep_elim_right.trans (bigSep_elim (Finset.mem_univ ck))

/-! ## The steps -/

/-- The signal to `peer c d` lets it write its slab of `c`'s buffer. -/
theorem signal_step (c n : Dev nD) (d : Fin 3) (hn : n = peer c d) (O : CellTallies nD τ sig Unit) (W : Waits sig Unit)
    {α : Type} {Q : α → sProp 𝕄} {k : PUnit → Prog (TpuEff nD τ sig (Elt F) Λ₀ .tc) α} (f : Buf (Elt F) ((c : Thread nD τ).loc cc0_scratch0)) :
    iprop(shared m K ∗ owes (c : Thread nD τ) (O + tallyAt (barCell (peer c d)) () 1) W ∗ dutyTok ER (barCell (peer c d)) 0 d
        ∗ slabPts c (zc (peer c d)) fullShare f)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS (1#32 : BitVec 32).toInt) k) Q) := by
  subst hn
  iintro ⟨#Hs, HO, Ht, Hf⟩
  iapply (Rounds.wp_signal 𝒱₀ ER (plan m) (c : Thread nD τ) none (dst := (peer c d : Thread nD τ)) (κ := K (peer c d, .inl ()))
      (d := d) (by rw [plan_duties m (peer c d) (.inl ())]; exact Finset.mem_univ _) ((plan_amount m (peer c d) (.inl ()) d).trans rfl) () O rfl)
  isplitr; · iapply (shared_inv m K (peer c d, .inl ())); iexact Hs
  isplitl [HO]; · iexact HO
  isplitl [Ht]; · iexact Ht
  isplitl [Hf]
  · iapply (show slabPts c (zc (peer c d)) fullShare f ⊢ (plan m).payload (kcell (peer c d, .inl ())) 0 d from by
      rw [plan_payload]
      show _ ⊢ barPay (peer c d) d
      unfold barPay; rw [back_peer]; exact Laws.exists_intro f)
    iexact Hf
  iapply (shared_reached m K (peer c d, .inl ())); iexact Hs

/-- The slab at the place the program computes. -/
abbrev slabAt (off : Fin 3 → Nat) (inb : ∀ a, off a + S1x2x256.size a ≤ S4x2x256.size a) : Memref sig .tc .vmem S2x256 .f32 :=
  (gM.slice (Rect.unit (s := S4x2x256) off S1x2x256.size inb) (fun _ => rfl)).squeeze S2x256 squeezes_S1x2x256_S2x256

/-- Copy `d`: `c`'s slab to the same slab of `peer c d`, reading through part `d` of it. -/
theorem copy_step (c n : Dev nD) (d : Fin 3) (hn : n = peer c d) {off : Fin 3 → Nat} {inb} (ho : off = ![(zc c).val, 0, 0])
    {hsc : (slabAt off inb : Memref sig (Dev.tc n : Thread nD τ).2.kind .vmem S2x256 .f32).view.ref.isScScratch = false}
    {hsrc : (slabAt off inb).view.WordExact} {hdst : (slabAt off inb).view.WordExact}
    {hsem : DmaTarget.Typed .vmem (.dma (recvS d)) (.remote (Dev.tc n : Thread nD τ) (slabAt off inb : Memref sig .tc .vmem S2x256 .f32) (.dma (sendS d)) hsc)}
    (O : CellTallies nD τ sig Unit) (W : Waits sig Unit)
    {α : Type} {Q : α → sProp 𝕄} {k : PUnit → Prog (TpuEff nD τ sig (Elt F) Λ₀ .tc) α}
    (fn : Buf (Elt F) ((peer c d : Thread nD τ).loc cc0_scratch0)) :
    iprop(shared m K ∗ owes (c : Thread nD τ) (O + tallyAt (recvCell (peer c d) d) () N) W
        ∗ dutyTok ER (sendCell c d) 0 0 ∗ dutyTok ER (recvCell (peer c d) d) 0 0
        ∗ slabPts c (zc c) (part d.castSucc) (gath m c) ∗ slabPts (peer c d) (zc c) fullShare fn)
      ⊢ iprop(((cred (tallyAt (sendCell c d) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slabAt off inb) (.remote (Dev.tc n : Thread nD τ) (slabAt off inb) (.dma (sendS d)) hsc) (.dma (recvS d)) hsrc hdst hsem) k) Q) := by
  subst hn ho
  iintro ⟨#Hs, HO, Ht, Htn, Hf, Hn⟩
  have h1 : (slab (zc c)).view.amount (.dma (recvS d)) = N := rfl
  have hd₁ : (0 : Fin 3) ∈ (plan m).duties (sendCell c d) 0 := by
    rw [plan_duties m c (.inr (.inl d))]; exact Finset.mem_singleton_self _
  have hd₂ : (0 : Fin 3) ∈ (plan m).duties (recvCell (peer c d) d) 0 := by
    rw [plan_duties m (peer c d) (.inr (.inr d))]; exact Finset.mem_singleton_self _
  have hp₁ : ((slab (zc c)).view.loc (c : Thread nD τ) ↦[(slab (zc c)).view.set]{part d.castSucc} gath m c)
      ⊢ (plan m).payload (sendCell c d) 0 0 := by
    rw [plan_payload m c (.inr (.inl d))]
    show _ ⊢ sendPay m c d
    unfold sendPay slabPts; rw [← slab_set]
  have hp₂ : ((slab (zc c)).view.loc (peer c d : Thread nD τ) ↦[(slab (zc c)).view.set]{fullShare}
        ((slab (zc c)).view.write (Elt F) fn ((slab (zc c)).view.read (Elt F) (gath m c)) Finset.univ))
      ⊢ (plan m).payload (recvCell (peer c d) d) 0 0 := by
    rw [plan_payload m (peer c d) (.inr (.inr d))]
    show _ ⊢ recvPay m (peer c d) d
    unfold recvPay slabPts; rw [back_peer, gath_peer, ← slab_set]
    exact Entails.of_eq (pointsTo_congr fun i hi => copied (zc c) fn (gath m c) i (by rw [← slab_set]; exact hi))
  iapply (Rounds.wp_send_pointsTo 𝒱₀ ER (plan m) (c : Thread nD τ) none (κ₁ := K (c, .inr (.inl d))) (κ₂ := K (peer c d, .inr (.inr d)))
    hd₁ hd₂ () () N h1 (plan_amount m c (.inr (.inl d)) 0) (plan_amount m (peer c d) (.inr (.inr d)) 0) O rfl (W := W) hp₁ hp₂)
  isplitr; · iapply (shared_inv m K (c, .inr (.inl d))); iexact Hs
  isplitr; · iapply (shared_inv m K (peer c d, .inr (.inr d))); iexact Hs
  isplitl [Hf]; · unfold slabPts; rw [← slab_set]; iexact Hf
  isplitl [Hn]; · unfold slabPts; rw [← slab_set]; iexact Hn
  isplitl [HO]; · iexact HO
  isplitl [Ht]; · iexact Ht
  isplitr; · iapply (shared_reached m K (c, .inr (.inl d))); iexact Hs
  isplitl [Htn]; · iexact Htn
  iapply (shared_reached m K (peer c d, .inr (.inr d))); iexact Hs

/-- A wait for all that semaphore `k` of `c` is to receive: what was paid with it is `c`'s, and the semaphore, its round
    over, is at zero for good. -/
theorem wait_step (c : Dev nD) (k : CK) (O : CellTallies nD τ sig Unit) (W : Waits sig Unit) {n : ℕ} (hn : n = (dutiesK k).card * amountK k)
    {w : TpuEff nD τ sig (Elt F) Λ₀ .tc PUnit}
    (hw : ∀ P : PUnit → sProp 𝕄, wpE (defs₀ (F := F)) 𝒱₀ (c : Thread nD τ) none Set.univ w P = waitSpec (c : Thread nD τ) Set.univ (csem k) n P)
    {α : Type} {Q : α → sProp 𝕄} {p : PUnit → Prog (TpuEff nD τ sig (Elt F) Λ₀ .tc) α} :
    iprop(shared m K ∗ cred (tallyAt (kcell (c, k)) () n) ∗ owes (c : Thread nD τ) O W ∗ MayWait (c : Thread nD τ) (csem k) () O ∗ atPos ER (kcell (c, k)) 0 ∅ 0)
      ⊢ iprop(((owes (c : Thread nD τ) O (insert (csem k, ()) W) ∗ semVal (kcell (c, k)) 0 ∗ bigSep (dutiesK k) (payK m c k))
            -∗ wp frame (wpE (defs₀ (F := F)) 𝒱₀ (c : Thread nD τ) none) Set.univ (p ⟨⟩) Q)
          -∗ wp frame (wpE (defs₀ (F := F)) 𝒱₀ (c : Thread nD τ) none) Set.univ (.op w p) Q) := by
  iintro ⟨#Hs, Hc, HO, Hm, Hat⟩ Hk
  iapply (Rounds.wp_wait_rest_token 𝒱₀ ER (plan m) (c : Thread nD τ) none (κ := K (c, k)) hw (Set.mem_univ _) () (O := O) (W := W)
      (R := 0) (m := 0) (T := ∅) (by rw [Nat.zero_add]; exact hn.trans (plan_expect m c k).symm)) $$ [Hc HO Hm Hat]
  · isplitr; · iapply (shared_inv m K (c, k)); iexact Hs
    isplitl [Hc]; · iexact Hc
    isplitl [HO]; · iexact HO
    isplitl [Hm]; · iexact Hm
    iexact Hat
  iintro ⟨HO, Hat, -, Hp⟩
  ihave Hp := (Entails.of_eq (plan_rest m c k)) $$ Hp
  ihave HI := (shared_inv m K (c, k)) $$ Hs
  imod (Rounds.cell_close ER (plan m) (Set.mem_univ (K (c, k))) (fun h => h) (R := 0 + 1) (plan_later m (kcell (c, k)))) $$ [HI Hat] with Hz
  · isplitl [HI]; · iexact HI
    iexact Hat
  iapply Hk
  isplitl [HO]; · iexact HO
  isplitl [Hz]; · iexact Hz
  iexact Hp

/-- Once it owes nothing a device waits on any of its copies' semaphores, whichever slab the wait names. -/
theorem copyWait_step (c : Dev nD) (e : Fin 3 ⊕ Fin 3) (W : Waits sig Unit) {src dst : Memref sig .tc .vmem S2x256 .f32}
    {hsrc : src.view.WordExact} {hdst : dst.view.WordExact} {q : DmaSem sig} (hq : csem (.inr e) = .dma q)
    {α : Type} {Q : α → sProp 𝕄} {p : PUnit → Prog (TpuEff nD τ sig (Elt F) Λ₀ .tc) α} :
    iprop(shared m K ∗ cred (tallyAt (kcell (c, .inr e)) () N) ∗ owes (c : Thread nD τ) 0 W ∗ atPos ER (kcell (c, .inr e)) 0 ∅ 0)
      ⊢ iprop(((owes (c : Thread nD τ) 0 (insert (csem (.inr e), ()) W) ∗ semVal (kcell (c, .inr e)) 0 ∗ payK m c (.inr e) 0)
            -∗ wp frame (wpE (defs₀ (F := F)) 𝒱₀ (c : Thread nD τ) none) Set.univ (p ⟨⟩) Q)
          -∗ wp frame (wpE (defs₀ (F := F)) 𝒱₀ (c : Thread nD τ) none) Set.univ (.op (.waitDma2 q src dst hsrc hdst) p) Q) := by
  iintro ⟨#Hs, Hc, HO, Hat⟩ Hk
  iapply (wait_step m K c (.inr e) 0 W (n := N) (by show N = 1 * N; rw [Nat.one_mul])
    (fun P => by rw [hq]; exact wpE_waitDma2_eq 𝒱₀ (c : Thread nD τ) none Set.univ P)) $$ [Hc HO Hat]
  · isplitr; · iexact Hs
    isplitl [Hc]; · iexact Hc
    isplitl [HO]; · iexact HO
    isplitr; · rw [MayWait_zero]; iempintro
    iexact Hat
  iintro ⟨HO, Hz, Hp⟩
  iapply Hk
  isplitl [HO]; · iexact HO
  isplitl [Hz]; · iexact Hz
  ihave Hp := (Entails.of_eq (show bigSep (dutiesK (.inr e)) (payK m c (.inr e)) = payK m c (.inr e) 0 from bigSep_singleton)) $$ Hp
  iexact Hp

end Cert.CrossEntropy

end
-- ==== Proof.Body.lean ====
/-
The kernel's body, run once on a device that stands for each of the sixteen.
-/
module

public import proofs.«01_k».proof.Proof.Steps

@[expose] public section

noncomputable section

namespace Cert.CrossEntropy

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-! ## A device's own things, one by one -/

theorem each_sem (Φ : CK → sProp 𝕄) : bigSep Finset.univ Φ
    = iprop(Φ (.inl ()) ∗ Φ (.inr (.inl 0)) ∗ Φ (.inr (.inl 1)) ∗ Φ (.inr (.inl 2)) ∗ Φ (.inr (.inr 0)) ∗ Φ (.inr (.inr 1)) ∗ Φ (.inr (.inr 2))) :=
  bigSep_univ_eq_bigSepL ([.inl (), .inr (.inl 0), .inr (.inl 1), .inr (.inl 2), .inr (.inr 0), .inr (.inr 1), .inr (.inr 2)] : List CK) (by decide) (by decide) Φ
theorem each_partner (Φ : Fin 3 → sProp 𝕄) : bigSep Finset.univ Φ = iprop(Φ 0 ∗ Φ 1 ∗ Φ 2) :=
  bigSep_univ_eq_bigSepL [0, 1, 2] (by decide) (by decide) Φ

/-- What the three signals bring: the right to write one's slab at each partner. -/
theorem barPays (c : Dev nD) : bigSep (dutiesK (.inl ())) (payK m c (.inl ()))
    = iprop((∃ f, slabPts (peer c 2) (zc c) fullShare f) ∗ (∃ f, slabPts (peer c 1) (zc c) fullShare f)
        ∗ (∃ f, slabPts (peer c 0) (zc c) fullShare f)) :=
  each_partner (payK m c (.inl ()))

/-- What a completed copy gives back, and what a landed one brings. -/
theorem sent (c : Dev nD) (d : Fin 3) : payK m c (.inr (.inl d)) 0 = slabPts c (zc c) (part d.castSucc) (gath m c) := rfl
theorem landed (c : Dev nD) (d : Fin 3) : payK m c (.inr (.inr d)) 0 = slabPts c (zc (back c d)) fullShare (gath m c) := rfl

/-- The tokens of the three payments a device makes for a partner: its signal, its copy's landing, its copy's reading. -/
def payToks (c : Dev nD) (d : Fin 3) : sProp 𝕄 :=
  iprop(dutyTok ER (barCell (peer c d)) 0 d ∗ dutyTok ER (recvCell (peer c d) d) 0 (0 : Fin 3) ∗ dutyTok ER (sendCell c d) 0 (0 : Fin 3))
def held (c : Dev nD) : sProp 𝕄 :=
  iprop((bigSep Finset.univ fun k : CK => atPos ER (kcell (c, k)) 0 ∅ 0) ∗ bigSep Finset.univ (payToks (F := F) c))

/-- What `c`'s body starts from, but for its buffers. -/
def start (c : Dev nD) : sProp 𝕄 :=
  iprop((∃ K, shared m K ∗ held c) ∗ cred (tallyAt (barCell c) () 3) ∗ (bigSep Finset.univ fun d : Fin 3 => cred (tallyAt (recvCell c d) () N)) ∗ levAts L lv)

def Φ₀ (c : Dev nD) : sProp 𝕄 :=
  iprop(start m c ∗ ∃ f : Buf (Elt F) ((c : Thread nD τ).loc cc0_scratch0), ((c : Thread nD τ).loc cc0_scratch0) ↦{fullShare} f)
/-- At the end: the gather buffer complete, every semaphore at zero. -/
def Φ₁ (c : Dev nD) : sProp 𝕄 :=
  iprop((((c : Thread nD τ).loc cc0_scratch0) ↦{fullShare} gath m c) ∗ bigSep Finset.univ fun k : CK => semVal (kcell (c, k)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xIn m c
    | ⟨1, _⟩ => wIn m c
    | ⟨2, _⟩ => labIn m c
    | ⟨3, _⟩ => outAt m c
  Φ t := match t with
    | ⟨0, _⟩ => Φ₀ m c
    | ⟨_ + 1, _⟩ => Φ₁ m c
  q _ := fullShare
  owed t := match t with
    | ⟨0, _⟩ => owed c
    | ⟨_ + 1, _⟩ => 0

abbrev t₀ : Fin cfg0.N := t0_0

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The run -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t₀.castSucc
    ∗ (∃ d, stg c cc0_stg0_0 ((dats m ρ 0 c).before (0 : Fin 4) t₀ d)) ∗ (∃ d, stg c cc0_stg1_0 ((dats m ρ 0 c).before (1 : Fin 4) t₀ d))
    ∗ (∃ d, stg c cc0_stg2_0 ((dats m ρ 0 c).before (2 : Fin 4) t₀ d)) ∗ (∃ d, stg c cc0_stg3_0 ((dats m ρ 0 c).before (3 : Fin 4) t₀ d)))

def bodyPost (c : Dev nD) : sProp 𝕄 :=
  iprop(Φ₁ m c ∗ (dats m ρ 0 c).owesAt () t₀.succ
    ∗ stg c cc0_stg0_0 (xIn m c) ∗ stg c cc0_stg1_0 (wIn m c) ∗ stg c cc0_stg2_0 (labIn m c) ∗ stg c cc0_stg3_0 (outAt m c))

set_option maxHeartbeats 2000000 in
set_option maxRecDepth 8000 in
theorem sound_body (c : Dev nD) :
    bodyPre m ρ c
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) cc0_scratch1 cc0_scratch2) (fun _ => bodyPost m ρ c) := by
  simp only [cc0_body_eq_skeleton]; unfold cc0_body_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [semSignalWord, semWaitWord, Prog.lift, Prog.bind_op, Prog.bind_ret, Prog.pure_eq_ret, wp_deviceId]
  unfold bodyPre Φ₀ start held
  rw [each_sem, each_partner, each_partner]
  unfold payToks
  iintro ⟨⟨⟨⟨%K, #Hs, ⟨HaB, HaS0, HaS1, HaS2, HaR0, HaR1, HaR2⟩, ⟨Hb0, Hr0, Ht0⟩, ⟨Hb1, Hr1, Ht1⟩, Hb2, Hr2, Ht2⟩, HcB, ⟨HcR0, HcR1, HcR2⟩, #Hlev⟩, %f0, Hg⟩,
    Ho, ⟨%d0, %g0, %hg0, Hx⟩, ⟨%d1, %g1, %hg1, Hw⟩, ⟨%d2, %g2, %hg2, Hl⟩, ⟨%d3, %g3, %hg3, Hout⟩⟩
  have hx : g0 = xIn m c := by rw [hg0]; unfold Dat.before; rw [if_pos (fetch0_0 t₀)]; rfl
  have hw : g1 = wIn m c := by rw [hg1]; unfold Dat.before; rw [if_pos (fetch0_1 t₀)]; rfl
  have hl : g2 = labIn m c := by rw [hg2]; unfold Dat.before; rw [if_pos (fetch0_2 t₀)]; rfl
  subst hx hw hl
  unfold Dat.owesAt Pipeline.owesWithin
  icases Ho with ⟨%W, %hW, HO⟩
  rw [show (dats m ρ 0 c).owed t₀.castSucc = owed c from rfl]
  unfold owed
  ihave Hg := (Entails.of_eq (whole_slabs c fullShare f0)) $$ Hg
  icases Hg with ⟨Hown, Hg0, Hg1, Hg2⟩
  -- the three signals
  iapply (signal_step m K c _ 0 (dev1_eq c) _ W f0) $$ [HO Hb0 Hg0]
  · isplitr; · iexact Hs
    isplitl [HO]; · iexact HO
    isplitl [Hb0]; · iexact Hb0
    iexact Hg0
  iintro HO
  iapply (signal_step m K c _ 1 (dev2_eq c) _ W f0) $$ [HO Hb1 Hg1]
  · isplitr; · iexact Hs
    isplitl [HO]; · iexact HO
    isplitl [Hb1]; · iexact Hb1
    iexact Hg1
  iintro HO
  iapply (signal_step m K c _ 2 (dev3_eq c) _ W f0) $$ [HO Hb2 Hg2]
  · isplitr; · iexact Hs
    isplitl [HO]; · iexact HO
    isplitl [Hb2]; · iexact Hb2
    iexact Hg2
  iintro HO
  -- the operands, and the two rows of the own slab
  iapply (wp_load 𝒱₀ (c : Thread nD τ) none Set.univ (m := Memref.whole cc0_stg0_0) (Finset.subset_univ _)) $$ Hx; iintro Hx
  rw [read_x]
  iapply (wp_load 𝒱₀ (c : Thread nD τ) none Set.univ (m := Memref.whole cc0_stg1_0) (Finset.subset_univ _)) $$ Hw; iintro Hw
  rw [read_w]
  iapply (wp_load 𝒱₀ (c : Thread nD τ) none Set.univ (m := Memref.whole cc0_stg2_0) (Finset.subset_univ _)) $$ Hl; iintro Hl
  rw [read_lab]
  unfold slabPts
  iapply (wp_load_rect 𝒱₀ (c : Thread nD τ) none Set.univ (m := gM) (r := rowRect (k0_off1 c) (k0_off1_inb c)) (row_load (zc c) 0 (k0_off1_eq c))) $$ Hown; iintro Hown
  iapply (wp_store 𝒱₀ (c : Thread nD τ) none Set.univ (m := gM) (r := rowRect (k0_off1 c) (k0_off1_inb c)) (Mk := Finset.univ) (row_store (zc c) 0 (k0_off1_eq c))) $$ Hown; iintro Hown
  iapply (wp_load_rect 𝒱₀ (c : Thread nD τ) none Set.univ (m := gM) (r := rowRect (k0_off2 c) (k0_off2_inb c)) (row_load (zc c) 1 (k0_off2_eq c))) $$ Hown; iintro Hown
  iapply (wp_store 𝒱₀ (c : Thread nD τ) none Set.univ (m := gM) (r := rowRect (k0_off2 c) (k0_off2_inb c)) (Mk := Finset.univ) (row_store (zc c) 1 (k0_off2_eq c))) $$ Hown; iintro Hown
  ihave Hown := (Entails.of_eq (pointsTo_congr fun i hi => own_slab m c (k0_off1_eq c) (k0_off2_eq c) f0 i hi)) $$ Hown
  -- the wait for the partners' signals
  iapply (wait_step m K c (.inl ()) (owedCopies c) W (n := 3) rfl (fun P => wpE_semWait_eq 𝒱₀ (c : Thread nD τ) none Set.univ P)) $$ [HcB HO HaB]
  · isplitr; · iexact Hs
    isplitl [HcB]; · iexact HcB
    isplitl [HO]; · iexact HO
    isplitr; · iapply (mayWait_bar c); iexact Hlev
    iexact HaB
  iintro ⟨HO, HzB, Hp⟩
  ihave Hp := (Entails.of_eq (barPays m c)) $$ Hp
  icases Hp with ⟨⟨%e2, Hn2⟩, ⟨%e1, Hn1⟩, %e0, Hn0⟩
  ihave Hown := (Entails.of_eq (slab_parts c (zc c) (gath m c))) $$ [Hown]
  · unfold slabPts; iexact Hown
  icases Hown with ⟨Ho0, Ho1, Ho2, Ho3⟩
  unfold owedCopies
  -- the three copies
  iapply (copy_step m K c _ 2 (dev4_eq c) (off3_slab c) _ _ e2) $$ [HO Ht2 Hr2 Ho2 Hn2]
  · isplitr; · iexact Hs
    isplitl [HO]; · iexact HO
    isplitl [Ht2]; · iexact Ht2
    isplitl [Hr2]; · iexact Hr2
    isplitl [Ho2]; · iexact Ho2
    iexact Hn2
  iintro ⟨HcS2, HO⟩
  iapply (copy_step m K c _ 1 (dev5_eq c) (off3_slab c) _ _ e1) $$ [HO Ht1 Hr1 Ho1 Hn1]
  · isplitr; · iexact Hs
    isplitl [HO]; · iexact HO
    isplitl [Ht1]; · iexact Ht1
    isplitl [Hr1]; · iexact Hr1
    isplitl [Ho1]; · iexact Ho1
    iexact Hn1
  iintro ⟨HcS1, HO⟩
  iapply (copy_step m K c _ 0 (dev6_eq c) (off3_slab c) _ _ e0) $$ [HO Ht0 Hr0 Ho0 Hn0]
  · isplitr; · iexact Hs
    isplitl [HO]; · iexact HO
    isplitl [Ht0]; · iexact Ht0
    isplitl [Hr0]; · iexact Hr0
    isplitl [Ho0]; · iexact Ho0
    iexact Hn0
  iintro ⟨HcS0, HO⟩
  -- the three slabs that arrive
  iapply (copyWait_step m K c (.inr 0) _ rfl) $$ [HcR0 HO HaR0]
  · isplitr; · iexact Hs
    isplitl [HcR0]; · iexact HcR0
    isplitl [HO]; · iexact HO
    iexact HaR0
  iintro ⟨HO, HzR0, Hg2⟩
  iapply (copyWait_step m K c (.inr 1) _ rfl) $$ [HcR1 HO HaR1]
  · isplitr; · iexact Hs
    isplitl [HcR1]; · iexact HcR1
    isplitl [HO]; · iexact HO
    iexact HaR1
  iintro ⟨HO, HzR1, Hg1⟩
  iapply (copyWait_step m K c (.inr 2) _ rfl) $$ [HcR2 HO HaR2]
  · isplitr; · iexact Hs
    isplitl [HcR2]; · iexact HcR2
    isplitl [HO]; · iexact HO
    iexact HaR2
  iintro ⟨HO, HzR2, Hg0⟩
  ihave Hg2 := (Entails.of_eq ((landed m c 0).trans (slab_parts c _ _))) $$ Hg2
  icases Hg2 with ⟨H20, H21, H22, H23⟩
  ihave Hg1 := (Entails.of_eq ((landed m c 1).trans (slab_parts c _ _))) $$ Hg1
  icases Hg1 with ⟨H10, H11, H12, H13⟩
  ihave Hg0 := (Entails.of_eq ((landed m c 2).trans (slab_parts c _ _))) $$ Hg0
  icases Hg0 with ⟨H00, H01, H02, H03⟩
  -- the whole buffer, through the part of each slab that no copy reads
  ihave Hg := (Entails.of_eq (whole_slabs c (part 3) (gath m c)).symm) $$ [Ho3 H03 H13 H23]
  · isplitl [Ho3]; · iexact Ho3
    isplitl [H03]; · iexact H03
    isplitl [H13]; · iexact H13
    iexact H23
  iapply (wp_load 𝒱₀ (c : Thread nD τ) none Set.univ (m := gM) (Finset.subset_univ _)) $$ Hg; iintro Hg
  iapply (wp_load 𝒱₀ (c : Thread nD τ) none Set.univ (m := gM) (Finset.subset_univ _)) $$ Hg; iintro Hg
  iapply (wp_load 𝒱₀ (c : Thread nD τ) none Set.univ (m := Memref.whole cc0_stg3_0) (Finset.subset_univ _)) $$ Hout; iintro Hout
  iapply (wp_store 𝒱₀ (c : Thread nD τ) none Set.univ (m := Memref.whole cc0_stg3_0) (r := rV) (Mk := Finset.univ) (Finset.subset_univ _)) $$ Hout; iintro Hout
  rw [write_out]
  -- the copies out complete
  iapply (copyWait_step m K c (.inl 2) _ rfl) $$ [HcS2 HO HaS2]
  · isplitr; · iexact Hs
    isplitl [HcS2]; · iexact HcS2
    isplitl [HO]; · iexact HO
    iexact HaS2
  iintro ⟨HO, HzS2, Ho2⟩
  ihave Ho2 := (Entails.of_eq (sent m c 2)) $$ Ho2
  iapply (copyWait_step m K c (.inl 1) _ rfl) $$ [HcS1 HO HaS1]
  · isplitr; · iexact Hs
    isplitl [HcS1]; · iexact HcS1
    isplitl [HO]; · iexact HO
    iexact HaS1
  iintro ⟨HO, HzS1, Ho1⟩
  ihave Ho1 := (Entails.of_eq (sent m c 1)) $$ Ho1
  iapply (copyWait_step m K c (.inl 0) _ rfl) $$ [HcS0 HO HaS0]
  · isplitr; · iexact Hs
    isplitl [HcS0]; · iexact HcS0
    isplitl [HO]; · iexact HO
    iexact HaS0
  iintro ⟨HO, HzS0, Ho0⟩
  ihave Ho0 := (Entails.of_eq (sent m c 0)) $$ Ho0
  ihave Hg := (Entails.of_eq (whole_slabs c (part 3) (gath m c))) $$ Hg
  icases Hg with ⟨Ho3, H03, H13, H23⟩
  rw [wp_ret]; imodintro
  unfold bodyPost Φ₁ Dat.owesAt Pipeline.owesWithin
  rw [show (dats m ρ 0 c).owed t₀.succ = 0 from rfl, each_sem, whole_slabs, slab_parts, slab_parts, slab_parts, slab_parts]
  isplitl [Ho0 Ho1 Ho2 Ho3 H00 H01 H02 H03 H10 H11 H12 H13 H20 H21 H22 H23 HzB HzS0 HzS1 HzS2 HzR0 HzR1 HzR2]
  · isplitl [Ho0 Ho1 Ho2 Ho3 H00 H01 H02 H03 H10 H11 H12 H13 H20 H21 H22 H23]
    · isplitl [Ho0 Ho1 Ho2 Ho3]
      · isplitl [Ho0]; · iexact Ho0
        isplitl [Ho1]; · iexact Ho1
        isplitl [Ho2]; · iexact Ho2
        iexact Ho3
      isplitl [H00 H01 H02 H03]
      · isplitl [H00]; · iexact H00
        isplitl [H01]; · iexact H01
        isplitl [H02]; · iexact H02
        iexact H03
      isplitl [H10 H11 H12 H13]
      · isplitl [H10]; · iexact H10
        isplitl [H11]; · iexact H11
        isplitl [H12]; · iexact H12
        iexact H13
      isplitl [H20]; · iexact H20
      isplitl [H21]; · iexact H21
      isplitl [H22]; · iexact H22
      iexact H23
    isplitl [HzB]; · iexact HzB
    isplitl [HzS0]; · iexact HzS0
    isplitl [HzS1]; · iexact HzS1
    isplitl [HzS2]; · iexact HzS2
    isplitl [HzR0]; · iexact HzR0
    isplitl [HzR1] <;> iassumption
  isplitl [HO]
  · iexists _
    isplitr; rotate_left; · iexact HO
    ipureintro; exact fun _ _ => Or.inl trivial
  isplitl [Hx]
  · iexists _; isplitr; · (ipureintro; rfl)
    iexact Hx
  isplitl [Hw]
  · iexists _; isplitr; · (ipureintro; rfl)
    iexact Hw
  isplitl [Hl]
  · iexists _; isplitr; · (ipureintro; rfl)
    iexact Hl
  iexists _; isplitr; · (ipureintro; rfl)
  iexact Hout

set_option maxRecDepth 8000 in
theorem body_obligation (c : Dev nD) : BodyObligation (dats (F := F) m ρ 0 c) (defs₀ (F := F)) 𝒱₀ () Set.univ := fun t => by
  rw [show t = t₀ from fin_N0 t]
  rw [bigSep_W0, bigSep_W0]
  simp only [owns_whole]
  exact sound_body m ρ c

end Cert.CrossEntropy

end
-- ==== Proof.Launch.lean ====
/-
The launch: the exchange's ghost state set up and dealt out, and the run of the whole program on the sixteen devices.
-/
module

public import proofs.«01_k».proof.Proof.Body
public import Idealize.ShloMosaic.Lib.Pipeline.CollectiveSegs

@[expose] public section

noncomputable section

namespace Cert.CrossEntropy

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The semaphores at launch -/

/-- The kernel's own six semaphores; the barrier is the runtime's. -/
abbrev osem (e : Fin 3 ⊕ Fin 3) : SemLoc sig := csem (.inr e)

theorem ownSemFacts : Pipeline.OwnSemFacts cfg0.spec osem where
  isScoped := by decide
  inj := fun a b h => Sum.inr.inj (csem_injective h)
  disj := by decide

theorem unscoped_eq (c : Dev nD) : (unscopedSems0 c : sProp 𝕄) = semVal (barCell c) 0 := by
  unfold unscopedSems0; rw [bigSep_eq_bigSepL_of_eq [SemLoc.reg barS] (by decide) (by decide)]; rfl

theorem sems_eq (c : Dev nD) : (bigSep Finset.univ fun k : CK => semVal (kcell (c, k)) 0 : sProp 𝕄)
    = iprop(unscopedSems0 c ∗ Pipeline.ownSems0 (Ix := Unit) (Name := ℕ) (U := UU) (Lvl := ℕ) (Val := Elt F) (τ := τ) osem c) := by
  rw [unscoped_eq]; unfold Pipeline.ownSems0
  rw [show (bigSep Finset.univ fun k : CK => semVal (kcell (c, k)) 0 : sProp 𝕄) = _ from BI.bigSep_univ_sum _]
  rw [show (bigSep (Finset.univ : Finset Unit) fun a => semVal (kcell (c, .inl a)) 0 : sProp 𝕄) = semVal (barCell c) 0 from bigSep_singleton]
  rfl

/-! ## Tokens -/

def planCells : Finset (GSem nD τ sig) := Finset.univ.map ⟨kcell, kcell_injective⟩

/-- The tokens of the payments `c`'s own semaphores are to receive, three for each `d`. -/
abbrev tokK (d : Fin 3) : Fin 3 → CK × Fin 3
  | 0 => (.inl (), d)
  | 1 => (.inr (.inr d), 0)
  | 2 => (.inr (.inl d), 0)
theorem tokK_injective : ∀ d j d' j', tokK d j = tokK d' j' → d = d' ∧ j = j' := by decide

abbrev tokOf (x : Dev nD × (Fin 3 × Fin 3)) : GSem nD τ sig × ℕ × Fin 3 := (kcell (x.1, (tokK x.2.1 x.2.2).1), 0, (tokK x.2.1 x.2.2).2)
theorem tokOf_injective : Function.Injective tokOf := by
  rintro ⟨c, d, j⟩ ⟨c', d', j'⟩ h
  have h1 := Prod.mk.inj (kcell_injective (congrArg Prod.fst h))
  have h2 := tokK_injective d j d' j' (Prod.ext h1.2 (congrArg (fun x => x.2.2) h))
  exact Prod.ext h1.1 (Prod.ext h2.1 h2.2)
def planToks : Finset (GSem nD τ sig × ℕ × Fin 3) := Finset.univ.map ⟨tokOf, tokOf_injective⟩

def u₀ : UU := (initOf (Pipeline.cells cfgs cellOf_inj) (Pipeline.launchToks cfgs cellOf_inj), initOf planCells planToks)

def ownToks (c : Dev nD) (d : Fin 3) : sProp 𝕄 :=
  iprop(dutyTok ER (barCell c) 0 d ∗ dutyTok ER (recvCell c d) 0 (0 : Fin 3) ∗ dutyTok ER (sendCell c d) 0 (0 : Fin 3))

/-- What the launch gives `c`, -/
def G (c : Dev nD) : sProp 𝕄 :=
  iprop((bigSep Finset.univ fun k : CK => roundState ER (plan m) (kcell (c, k)) 0)
    ∗ (bigSep Finset.univ fun k : CK => iprop(atPos ER (kcell (c, k)) 0 ∅ 0 ∗ reached ER (kcell (c, k)) 0)) ∗ bigSep Finset.univ (ownToks (F := F) c))
/-- and what it has once the semaphores' invariants stand and the tokens are with those who pay. -/
def G' (c : Dev nD) : sProp 𝕄 := iprop(∃ K, shared m K ∗ held c)

theorem fund_plan : BI.own (ER (initOf planCells planToks)) ⊢ (|==> bigSep Finset.univ (G m) : sProp 𝕄) := by
  have hX (Φ : GSem nD τ sig → sProp 𝕄) : bigSep planCells Φ = bigSep Finset.univ fun c : Dev nD => bigSep Finset.univ fun k : CK => Φ (kcell (c, k)) := by
    unfold planCells; rw [bigSep_map, bigSep_univ_prod]; rfl
  have hT : bigSep planToks (fun x => (dutyTok ER x.1 x.2.1 x.2.2 : sProp 𝕄)) = bigSep Finset.univ fun c : Dev nD => bigSep Finset.univ (ownToks c) := by
    unfold planToks; rw [bigSep_map, bigSep_univ_prod]
    refine bigSep_congr fun c _ => ?_
    rw [bigSep_univ_prod]
    exact bigSep_congr fun d _ => by unfold ownToks; rw [each_partner]; rfl
  iintro HX
  imod (Rounds.fund ER (plan m) planCells planToks) $$ HX with ⟨Hst, Hr, Hat, Htok⟩
  imodintro
  ihave Hst := (Entails.of_eq (hX fun g => roundState ER (plan m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat]; · iexact Hat
    iexact Hr
  iexact Htok

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (plan m) κ (kcell (c, k))))
          ∗ (bigSep Finset.univ fun k => iprop(atPos ER (kcell (c, k)) 0 ∅ 0 ∗ reached ER (kcell (c, k)) 0)) ∗ bigSep Finset.univ (ownToks (F := F) c)) := by
  unfold G
  iintro ⟨Hos, Hus, Hst, Hat, Htok⟩
  ihave Hv := (Entails.of_eq (sems_eq (F := F) c).symm) $$ [Hos Hus]
  · isplitl [Hus]; · iexact Hus
    iexact Hos
  imod (show iprop((bigSep Finset.univ fun k : CK => semVal (kcell (c, k)) 0) ∗ bigSep Finset.univ fun k : CK => roundState ER (plan m) (kcell (c, k)) 0)
      ⊢ (|={Set.univ}=> bigSep Finset.univ fun k => iprop(∃ κ : ℕ, cellInv ER (plan m) κ (kcell (c, k))) : sProp 𝕄) from by
        rw [← bigSep_sep']
        exact (bigSep_mono fun k _ => (Rounds.body_intro ER (plan m) (kcell (c, k))).trans inv_alloc).trans (bigSep_fupd _ _)) $$ [Hv Hst] with Hinv
  · isplitl [Hv]; · iexact Hv
    iexact Hst
  imodintro
  isplitl [Hinv]; · iexact Hinv
  isplitl [Hat]; · iexact Hat
  iexact Htok

theorem by_partner (Φ : Dev nD → Fin 3 → sProp 𝕄) :
    (bigSep Finset.univ fun c => bigSep Finset.univ (Φ c)) = bigSep Finset.univ fun d => bigSep Finset.univ fun c => Φ c d := by
  simp only [each_partner, bigSep_sep']

/-- The tokens go to those who pay: a signal's and a landing's to the partner that sends. -/
theorem toks_dealt : (bigSep Finset.univ fun c : Dev nD => bigSep Finset.univ (ownToks (F := F) c))
    = bigSep Finset.univ fun c : Dev nD => bigSep Finset.univ (payToks (F := F) c) := by
  rw [by_partner, by_partner]
  refine bigSep_congr fun d _ => ?_
  unfold ownToks payToks
  rw [bigSep_sep', bigSep_sep', bigSep_sep', bigSep_sep',
    bigSep_univ_equiv (turn d) (fun c : Dev nD => (dutyTok ER (barCell c) 0 d : sProp 𝕄)),
    bigSep_univ_equiv (turn d) (fun c : Dev nD => (dutyTok ER (recvCell c d) 0 (0 : Fin 3) : sProp 𝕄))]
  rfl

theorem with_shared {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (plan m) κ (kcell (c, k))))
          ∗ (bigSep Finset.univ fun k => iprop(atPos ER (kcell (c, k)) 0 ∅ 0 ∗ reached ER (kcell (c, k)) 0)) ∗ bigSep Finset.univ (ownToks (F := F) c)) : sProp 𝕄)
      ⊢ bigSep Finset.univ (G' m) := by
  rw [bigSep_sep', bigSep_sep', ← bigSep_univ_prod (fun ck : Dev nD × CK => iprop(∃ κ : ℕ, cellInv ER (plan m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄)), toks_dealt]
  iintro ⟨HI, ⟨Hat, #HR⟩, Htok⟩
  ihave HK := (BI.bigSep_exists_pi Finset.univ (fun (ck : Dev nD × CK) (κ : ℕ) => (cellInv ER (plan m) κ (kcell ck) : sProp 𝕄))) $$ HI
  icases HK with ⟨%K, #HI⟩
  iapply (with_shared (R := shared m K) (Φ := held) fun c _ => show _ ⊢ G' m c from Laws.exists_intro (Φ := fun K => iprop(shared m K ∗ held c)) K)
  isplitr
  · unfold shared; isplitr; · iexact HI
    iexact HR
  · unfold held; rw [bigSep_sep']
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at launch -/

def creditK : CK → ℕ
  | .inl _ => 3
  | .inr (.inl _) => 0
  | .inr (.inr _) => N

/-- What all devices owe a semaphore through their payments to their partners at `d`. -/
theorem tally_sum (c : Dev nD) (k k' : CK) (d : Fin 3) (n : ℕ) :
    ∑ b : Dev nD, (tallyAt (kcell (peer b d, k')) () n : CellTallies nD τ sig Unit) (kcell (c, k)) () = if k = k' then n else 0 := by
  refine (Equiv.sum_comp (turn d) fun b => (tallyAt (kcell (b, k')) () n : CellTallies nD τ sig Unit) (kcell (c, k)) ()).trans ?_
  by_cases h : k = k'
  · subst h
    rw [if_pos rfl, Finset.sum_congr rfl (fun b _ => show _ = if c = b then n else 0 from ?_), Finset.sum_ite_eq, if_pos (Finset.mem_univ _)]
    rw [tallyAt_apply]
    exact if_congr ⟨fun h => (kcell_eq_iff.mp h.1).1, fun h => ⟨by rw [h], rfl⟩⟩ rfl rfl
  · rw [if_neg h]
    exact Finset.sum_eq_zero fun b _ => by rw [tallyAt_apply, if_neg fun h' => h (kcell_eq_iff.mp h'.1).2]

theorem owed_sum (c : Dev nD) (k : CK) : ∑ b : Dev nD, owed b (kcell (c, k)) () = creditK k := by
  unfold owed owedCopies
  simp only [Pi.add_apply, Finsupp.add_apply, Finset.sum_add_distrib]
  have hb (d : Fin 3) := tally_sum c k (.inl ()) d 1
  have hr (d : Fin 3) := tally_sum c k (.inr (.inr d)) d N
  dsimp only [kcell, csem] at hb hr ⊢
  rw [hb, hb, hb, hr, hr, hr]
  rcases k with _ | d | d
  · simp [creditK]
  · simp [creditK]
  · fin_cases d <;> simp [creditK]

theorem creds (c : Dev nD) : (Pipeline.launchCred owed c : sProp 𝕄)
    ⊢ iprop(cred (tallyAt (barCell c) () 3) ∗ bigSep Finset.univ fun d : Fin 3 => cred (tallyAt (recvCell c d) () N)) := by
  have h (k : CK) : tallyOn (kcell (c, k)) (launchCredit (Pipeline.owing owed) 0 (kcell (c, k))) = (tallyAt (kcell (c, k)) () (creditK k) : CellTallies nD τ sig Unit) := by
    unfold tallyAt; refine congrArg _ (Finsupp.ext fun u => ?_)
    rw [Pipeline.launchCredit_owing, Finsupp.single_eq_same, owed_sum]
  unfold Pipeline.launchCred
  refine (BI.bigSep_subset (Finset.subset_univ (Finset.univ.map ⟨csem, csem_injective⟩))).trans ?_
  rw [bigSep_map]
  refine (Entails.of_eq (bigSep_congr fun k _ => show _ = (cred (tallyAt (kcell (c, k)) () (creditK k)) : sProp 𝕄) from congrArg cred (h k))).trans ?_
  rw [each_sem, each_partner]
  iintro ⟨HB, -, -, -, H0, H1, H2⟩
  isplitl [HB]; · iexact HB
  isplitl [H0]; · iexact H0
  isplitl [H1]; · iexact H1
  iexact H2

/-! ## The side conditions -/

theorem start_intro (c : Dev nD) :
    iprop(Pipeline.unscopedRestP Pipeline.Prefetch.none cfg0.spec c (fun b => m ((c : Thread nD τ).loc b)) ∗ levAts L lv
        ∗ Pipeline.launchCred owed c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi_first (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs]; · iexact Hs
  iexact Hr

theorem phi_last (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m c from rfl, scopedRest0_eq]
  unfold Φ₁; rw [sems_eq]
  iintro ⟨Hr, HzB, HzS⟩
  isplitl [HzB]; · iexact HzB
  isplitl [HzS]; · iexact HzS
  iexists (gath m c); iexact Hr

theorem stage_sems : ∀ (w : Fin 4) (s : Fin (spec0 w).nbuf), ckOf (.dma ((spec0 w).sem s)) = none := by decide

theorem waits (c : Dev nD) : (levAts L lv : sProp 𝕄) ⊢ Pipeline.cellsWaits cfgs (dats m ρ) () 0 c :=
  Pipeline.cellsWaits_intro cfgs (dats m ρ) () 0 c fun w s t =>
    mayWait_stage c _ (stage_sems w s) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

set_option maxRecDepth 8000 in
/-- From any memory with every counter zero, every fair run of the program ends, each device's operands and result then
    as computed and every counter zero. -/
theorem run_main : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0)
    (hshare := fun c w => by unfold Dat.share; split <;> rfl)
    (hdistinct := winFacts0.arr_inj)
    (O₀ := owed) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_plan m) $$ HX with HG
      imodintro
      isplitl [HP]; · iexact HP
      iexact HG)
    (hglob := glob m)
    (hA := fun _ _ => rfl) (hpf := fun _ k => k.elim0)
    (X := start m) (Y := fun c => unscopedSems0 c) (Z := fun _ => iprop(emp))
    (hX := start_intro m ρ) (hin := phi_first m ρ) (hout := phi_last m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

end Cert.CrossEntropy

end
-- ==== Proof.LogSum.lean ====
/-
The mathematics the kernel rests on, over the extended reals: the logarithm of a sum of exponentials is the same whether or
not the largest term is taken out first, and whether the sum is taken in one go or in four quarters.
-/
module

public import Idealize.ShloMosaic.PureOps.Ideal
public import Mathlib.Analysis.SpecialFunctions.Log.Basic

@[expose] public section

noncomputable section

namespace Cert.CrossEntropy

open Idealize.ShloMosaic
open scoped BigOperators

/-- An extended real that is a real. -/
def IsReal (x : EReal) : Prop := ∃ r : ℝ, x = (r : EReal)

theorem coe_sum {ι : Type} (s : Finset ι) (f : ι → ℝ) : ∑ i ∈ s, (f i : EReal) = ((∑ i ∈ s, f i : ℝ) : EReal) :=
  (map_sum (⟨⟨fun r : ℝ => (r : EReal), EReal.coe_zero⟩, EReal.coe_add⟩ : ℝ →+ EReal) f s).symm

theorem exp_coe (r : ℝ) : Ideal.exp (r : EReal) = (Real.exp r : EReal) := rfl

theorem log_coe {r : ℝ} (h : 0 < r) : Ideal.log (r : EReal) = (Real.log r : EReal) :=
  if_neg (not_le.mpr h)

/-- A sum of products of reals is a real. -/
theorem isReal_sum_mul {ι : Type} [Fintype ι] (f g : ι → EReal) (hf : ∀ i, IsReal (f i)) (hg : ∀ i, IsReal (g i)) :
    IsReal (∑ i, f i * g i) := by
  choose a ha using hf
  choose b hb using hg
  refine ⟨∑ i, a i * b i, ?_⟩
  rw [← coe_sum]
  exact Finset.sum_congr rfl fun i _ => by rw [ha, hb, EReal.coe_mul]

/-- The largest of finitely many reals, at least one, is a real. -/
theorem isReal_fold_max {n : ℕ} (l : Fin (n + 1) → EReal) (h : ∀ j, IsReal (l j)) :
    IsReal ((Finset.univ : Finset (Fin (n + 1))).fold max ⊥ l) := by
  obtain ⟨r, hr⟩ := h 0
  have hlt : (Finset.univ : Finset (Fin (n + 1))).fold max ⊥ l < ⊤ :=
    Finset.fold_max_lt _ |>.mpr ⟨bot_lt_top, fun j _ => by obtain ⟨s, hs⟩ := h j; rw [hs]; exact EReal.coe_lt_top s⟩
  have hle : (r : EReal) ≤ (Finset.univ : Finset (Fin (n + 1))).fold max ⊥ l :=
    Finset.le_fold_max _ |>.mpr (Or.inr ⟨0, Finset.mem_univ _, hr.ge⟩)
  exact ⟨_, (EReal.coe_toReal hlt.ne fun e => by rw [e] at hle; exact absurd hle (not_le.mpr (EReal.bot_lt_coe r))).symm⟩

/-- Taking a real out of the exponents does not change the logarithm of the sum. -/
theorem shift_log {ι : Type} [Fintype ι] [Nonempty ι] (f : ι → ℝ) (M : ℝ) :
    M + Real.log (∑ j, Real.exp (f j - M)) = Real.log (∑ j, Real.exp (f j)) := by
  have e : ∑ j, Real.exp (f j) = Real.exp M * ∑ j, Real.exp (f j - M) := by
    rw [Finset.mul_sum]
    exact Finset.sum_congr rfl fun j _ => by rw [← Real.exp_add]; congr 1; ring
  have hp : 0 < ∑ j, Real.exp (f j - M) := Finset.sum_pos (fun j _ => Real.exp_pos _) Finset.univ_nonempty
  rw [e, Real.log_mul (Real.exp_pos M).ne' hp.ne', Real.log_exp]

/-- The same over the extended reals, every term a real. -/
theorem shift_log_ereal {ι : Type} [Fintype ι] [Nonempty ι] (l : ι → EReal) (M : EReal) (hl : ∀ j, IsReal (l j)) (hM : IsReal M) :
    M + Ideal.log (∑ j, Ideal.exp (l j - M)) = Ideal.log (∑ j, Ideal.exp (l j)) := by
  choose f hf using hl
  obtain ⟨r, rfl⟩ := hM
  have e1 : ∀ j, Ideal.exp (l j - (r : EReal)) = ((Real.exp (f j - r) : ℝ) : EReal) := fun j => by
    rw [hf, ← EReal.coe_sub]; rfl
  have e2 : ∀ j, Ideal.exp (l j) = ((Real.exp (f j) : ℝ) : EReal) := fun j => by rw [hf]; rfl
  simp only [e1, e2]
  rw [coe_sum, coe_sum, log_coe (Finset.sum_pos (fun j _ => Real.exp_pos _) Finset.univ_nonempty),
    log_coe (Finset.sum_pos (fun j _ => Real.exp_pos _) Finset.univ_nonempty), ← EReal.coe_add, shift_log]

/-- Column `j` of quarter `k`. -/
def col (k : Fin 4) (j : Fin 4096) : Fin 16384 := ⟨4096 * k.val + j.val, by omega⟩

/-- A sum over all columns, quarter by quarter. -/
theorem sum_quarters (g : Fin 16384 → EReal) : ∑ k : Fin 4, ∑ j : Fin 4096, g (col k j) = ∑ i : Fin 16384, g i := by
  rw [← Fintype.sum_prod_type' fun k j => g (col k j)]
  refine Fintype.sum_equiv (finProdFinEquiv (m := 4) (n := 4096)) _ _ fun p => congrArg g (Fin.ext ?_)
  show 4096 * p.1.val + p.2.val = p.2.val + 4096 * p.1.val
  omega

/-- The cross-entropy of a row of logits against its label: computed stably from all columns at once, or from the quarters'
    plain sums of exponentials and the one logit the label names. -/
theorem entropy_quarters (l : Fin 16384 → EReal) (hl : ∀ j, IsReal (l j)) (a : Fin 16384) :
    (Finset.univ.fold max ⊥ l + Ideal.log (∑ j, Ideal.exp (l j - Finset.univ.fold max ⊥ l))) - l a
      = Ideal.log (∑ k : Fin 4, ∑ j : Fin 4096, Ideal.exp (l (col k j)))
          - ∑ k : Fin 4, ∑ j : Fin 4096, (if col k j = a then l (col k j) else 0) := by
  rw [shift_log_ereal l _ hl (isReal_fold_max l hl), sum_quarters fun i => Ideal.exp (l i),
    sum_quarters fun i => if i = a then l i else 0, Finset.sum_ite_eq' Finset.univ a l, if_pos (Finset.mem_univ a)]

end Cert.CrossEntropy

end
-- ==== Proof.Values.lean ====
/-
What the kernel's arithmetic computes on the extended reals, entry by entry.
-/
module

public import proofs.«01_k».proof.Proof.Launch
public import proofs.«01_k».proof.Proof.LogSum
public import Idealize.ShloMosaic.Lib.MatmulPlain
public import Idealize.ShloMosaic.Lib.ValueIdx
public import Idealize.ShloMosaic.Lib.IdealHost
public import Idealize.ShloMosaic.Lib.StableHlo.Predicate
public import Idealize.ShloMosaic.Lib.Pipeline.Value
public import Idealize.ShloMosaic.Lib.Layout
public import Idealize.ShloMosaic.PureOps.Ideal.Laws

@[expose] public section

noncomputable section

namespace Cert.CrossEntropy

open Cert.KernelIdeal Cert.KernelIdeal.Gen

open Idealize.ShloMosaic Idealize.ShloMosaic.ValueIdx
open Idealize.ShloMosaic.TcCoe
open scoped BigOperators

/-- The logit of row `r` and column `j`. -/
def logit {n : ℕ} (x : (⟨2, ![256, 512]⟩ : Shape).Idx → EReal) (w : (⟨2, ![512, n]⟩ : Shape).Idx → EReal) (r : Fin 256) (j : Fin n) : EReal :=
  ∑ k : Fin 512, x (ix2 r k) * w (ix2 k j)

variable (x : FVec Ideal S256x512 .f32) (w : FVec Ideal S512x4096 .f32) (lab : IVec S256 32)

theorem pay2_apply (r : Fin 256) (j : Fin 4096) : k0_pay2 (F := Ideal) x w (ix2 r j) = logit x w r j := by
  unfold k0_pay2
  simp only [matmul]
  refine (Ideal.matmul_plain_apply (M := 256) (K := 512) (N := 4096) _ _ _ _ r j).trans ?_
  rw [shapeCast_self, shapeCast_self, constant_apply]
  show Ideal.ofBits .f32 0x00000000#32 + _ = _
  rw [Ideal.ofBits_zero_f32, zero_add]
  rfl

/-- The position a reduction of the columns reads, -/
theorem lift_col (r : Fin 256) (j : Fin 4096) : reduces_S256x4096_S256.lift (ix1 r) j = ix2 r j := by
  funext a; match a with | ⟨0, _⟩ => rfl | ⟨1, _⟩ => rfl

/-- and one of the members' rows. -/
theorem lift_row (k : Fin 4) (r : Fin 256) : reduces_S4x256_S256.lift (ix1 r) k = ix2 k r := by
  funext a; match a with | ⟨0, _⟩ => rfl | ⟨1, _⟩ => rfl

/-- A sum over the columns. -/
theorem sum_cols (v : FVec Ideal S256x4096 .f32) (r : Fin 256) :
    multiReduction .add [1] S256 v 0x00000000#32 reduces_S256x4096_S256 (.inl rfl) rfl (ix1 r) = ∑ j : Fin 4096, v (ix2 r j) :=
  (Ideal.multiReduction_add_single _ _ _ _ _ _).trans (Finset.sum_congr rfl fun j _ => congrArg v (lift_col r j))

/-- A sum over the members' rows. -/
theorem sum_rows (v : FVec Ideal S4x1x256 .f32) (r : Fin 256) :
    multiReduction .add [0] S256 (shapeCast S4x256 v shapeCasts_S4x1x256_S4x256) 0x00000000#32 reduces_S4x256_S256 (.inl rfl) rfl (ix1 r)
      = ∑ k : Fin 4, v (ix3 k (0 : Fin 1) r) := by
  refine (Ideal.multiReduction_add_single _ _ _ _ _ _).trans (Finset.sum_congr rfl fun k _ => ?_)
  refine (congrArg _ (lift_row k r)).trans (shapeCast_apply _ _ _ _ ?_)
  rw [Shape.rowMajor_val_three, Shape.rowMajor_val_two]
  show (k.val * 1 + 0) * 256 + r.val = k.val * 256 + r.val
  omega

/-- A vector stored as a row. -/
theorem as_row (v : FVec Ideal S256 .f32) (r : Fin 256) : shapeCast S1x1x256 v shapeCasts_S256_S1x1x256 (atRow r) = v (ix1 r) := by
  refine shapeCast_apply _ _ _ _ ?_
  rw [Shape.rowMajor_val_three, Shape.rowMajor_val_one]
  show r.val = (0 * 1 + 0) * 256 + r.val
  omega

theorem pay3_apply (r : Fin 256) : k0_pay3 (F := Ideal) x w (atRow r) = ∑ j : Fin 4096, Ideal.exp (logit x w r j) := by
  unfold k0_pay3
  refine (as_row _ r).trans ((sum_cols _ r).trans (Finset.sum_congr rfl fun j _ => ?_))
  exact congrArg Ideal.exp (pay2_apply x w r j)

theorem pay4_apply (v8 : BitVec 32) (r : Fin 256) : k0_pay4 (F := Ideal) v8 x w lab (atRow r)
    = ∑ j : Fin 4096, if BitVec.ofNat 32 j.val + v8 * 4096#32 = lab (ix1 r) then logit x w r j else 0 := by
  unfold k0_pay4
  refine (as_row _ r).trans ((sum_cols _ r).trans (Finset.sum_congr rfl fun j _ => ?_))
  rw [select_apply]
  have hl : broadcastTo S256x4096 (shapeCast S256x1 (shapeCast S256 lab shapeCasts_S256_S256) shapeCasts_S256_S256x1) broadcasts_S256x1_S256x4096
      (ix2 r j) = lab (ix1 r) := by
    rw [shapeCast_self]
    refine (broadcastTo_apply _ _ _ (ix2 r (0 : Fin 1)) fun a => ?_).trans (shapeCast_apply _ _ _ _ ?_)
    · match a with | ⟨0, _⟩ => rfl | ⟨1, _⟩ => rfl
    · rw [Shape.rowMajor_val_two, Shape.rowMajor_val_one]
      show r.val = r.val * 1 + 0
      omega
  have hc : cmpi .eq (addi (iota .tc S256x4096 32 [1] iota_S256x4096_d1_w32) (broadcast S256x4096 (Scalar.muli v8 4096#32)))
      (broadcastTo S256x4096 (shapeCast S256x1 (shapeCast S256 lab shapeCasts_S256_S256) shapeCasts_S256_S256x1) broadcasts_S256x1_S256x4096)
      (ix2 r j) = IntOp.cmpi .eq (BitVec.ofNat 32 j.val + v8 * 4096#32) (lab (ix1 r)) := by
    have hi : iota .tc S256x4096 32 [1] iota_S256x4096_d1_w32 (ix2 r j) = BitVec.ofNat 32 j.val := iota_single_apply _ _ _ _ _ _
    rw [← hl, ← hi]; rfl
  rw [hc, pay2_apply]
  by_cases h : BitVec.ofNat 32 j.val + v8 * 4096#32 = lab (ix1 r)
  · rw [if_pos h, StableHlo.Predicate.cmpi_eq_iff.mpr h, select_one]
  · rw [if_neg h, eq_zero_of_ne_one fun e => h (StableHlo.Predicate.cmpi_eq_iff.mp e), select_zero]
    exact Ideal.ofBits_zero_f32

theorem pay5_apply (v : FVec Ideal S4x1x256 .f32) (r : Fin 256) :
    k0_pay5 (F := Ideal) v (ix1 r) = Ideal.log (∑ k : Fin 4, v (ix3 k (0 : Fin 1) r)) :=
  congrArg Ideal.log (sum_rows v r)

theorem pay6_apply (v : FVec Ideal S4x1x256 .f32) (r : Fin 256) :
    k0_pay6 (F := Ideal) v (ix1 r) = ∑ k : Fin 4, v (ix3 k (0 : Fin 1) r) := sum_rows v r

/-! ## The operands and the exchanged rows -/

variable (m : (ℓ : Loc nD τ sig) → Buf (Elt Ideal) ℓ)

theorem xIn_eq (c : Dev nD) : xIn m c = m ((c : Thread nD τ).loc main_arg0) := by
  unfold xIn; exact Memref.read_access_unit_zero (Elt Ideal) main_arg0 (funext fun _ => Nat.zero_mul _) _ _

theorem wIn_eq (c : Dev nD) : wIn m c = m ((c : Thread nD τ).loc main_arg1) := by
  unfold wIn; exact Memref.read_access_unit_zero (Elt Ideal) main_arg1 (funext fun _ => Nat.zero_mul _) _ _

theorem labIn_eq (c : Dev nD) : labIn m c = m ((c : Thread nD τ).loc main_arg2) := by
  unfold labIn; exact Memref.read_access_unit_zero (Elt Ideal) main_arg2 (funext fun _ => Nat.zero_mul _) _ _

theorem zWord_eq : ∀ c : Dev nD, zWord c = BitVec.ofNat 32 (zc c).val := by decide

theorem sums_apply (c : Dev nD) (k : Fin 4) (r : Fin 256) : sums m c (ix3 k (0 : Fin 1) r) = sumRow m (memb c k) (atRow r) := by
  have h : (rG0.emb (ix3 k (0 : Fin 1) r) : S4x2x256.Idx) = ix3 k (0 : Fin 2) r := by
    funext a; match a with | ⟨0, _⟩ => exact Fin.ext (Nat.zero_add _ |>.trans (Nat.one_mul _)) | ⟨1, _⟩ => rfl | ⟨2, _⟩ => exact Fin.ext (Nat.zero_add _ |>.trans (Nat.one_mul _))
  show gath m c (rG0.emb (ix3 k (0 : Fin 1) r)) = _
  rw [h]; rfl

theorem labs_apply (c : Dev nD) (k : Fin 4) (r : Fin 256) : labs m c (ix3 k (0 : Fin 1) r) = labRow m (memb c k) (atRow r) := by
  have h : (rG1.emb (ix3 k (0 : Fin 1) r) : S4x2x256.Idx) = ix3 k (1 : Fin 2) r := by
    funext a; match a with | ⟨0, _⟩ => exact Fin.ext (Nat.zero_add _ |>.trans (Nat.one_mul _)) | ⟨1, _⟩ => rfl | ⟨2, _⟩ => exact Fin.ext (Nat.zero_add _ |>.trans (Nat.one_mul _))
  show gath m c (rG1.emb (ix3 k (0 : Fin 1) r)) = _
  rw [h]; rfl

/-- The kernel's result on device `c`, every member's operands read from memory. -/
theorem outAt_apply (c : Dev nD) (r : Fin 256) : outAt m c (ix1 r)
    = Ideal.log (∑ k : Fin 4, ∑ j : Fin 4096,
          Ideal.exp (logit (m ((memb c k : Thread nD τ).loc main_arg0)) (m ((memb c k : Thread nD τ).loc main_arg1)) r j))
      - ∑ k : Fin 4, ∑ j : Fin 4096,
          (if BitVec.ofNat 32 j.val + BitVec.ofNat 32 k.val * 4096#32 = (m ((memb c k : Thread nD τ).loc main_arg2) : IVec S256 32) (ix1 r)
            then logit (m ((memb c k : Thread nD τ).loc main_arg0)) (m ((memb c k : Thread nD τ).loc main_arg1)) r j else 0) := by
  show k0_pay5 (F := Ideal) (sums m c) (ix1 r) - k0_pay6 (F := Ideal) (labs m c) (ix1 r) = _
  rw [pay5_apply, pay6_apply]
  refine congrArg₂ (fun a b : EReal => Ideal.log a - b) (Finset.sum_congr rfl fun k _ => ?_) (Finset.sum_congr rfl fun k _ => ?_)
  · rw [sums_apply, sumRow, pay3_apply, xIn_eq, wIn_eq]
  · rw [labs_apply, labRow, pay4_apply, xIn_eq, wIn_eq, labIn_eq, zWord_eq, zc_memb]

/-- Member `k`'s columns of `W`: a quarter of the whole. -/
theorem quarter (W : (⟨2, ![512, 16384]⟩ : Shape).Idx → EReal) (c : Dev nD) (k : Fin 4) (i : Fin 512) (j : Fin 4096) :
    Layout.blockN ⟨2, ![512, 4096]⟩ ⟨2, ![512, 16384]⟩ (Layout.meshBlock [2, 2, 4] ![[], [2]] (memb c k)) W (by decide) (ix2 i j) = W (ix2 i (col k j)) := by
  have hz : (Layout.meshLin [2, 2, 4] (memb c k).val [2]) = k.val := by
    revert c k; decide
  refine congrArg W ?_
  funext a
  refine Fin.ext ?_
  match a with
  | ⟨0, _⟩ => show 0 * 512 + i.val = i.val; omega
  | ⟨1, _⟩ => show Layout.meshLin [2, 2, 4] (memb c k).val [2] * 4096 + j.val = 4096 * k.val + j.val; rw [hz]; omega

end Cert.CrossEntropy

end
-- ==== Proof.Reference.lean ====
/-
What the reference computes on the extended reals, entry by entry, and what the precondition gives.
-/
module

public import proofs.«01_k».proof.Proof.Gen.ReferenceIdeal.Run
public import proofs.«01_k».proof.Proof.Gen.Pre_finite_and_in_range_KernelIdeal
public import proofs.«01_k».proof.Proof.LogSum
public import Idealize.ShloMosaic.Lib.StackMember
public import Idealize.ShloMosaic.Lib.ValueIdx
public import Idealize.ShloMosaic.Lib.IdealHost
public import Idealize.ShloMosaic.Lib.StableHlo.Predicate
public import Idealize.ShloMosaic.Lib.Pipeline.Value
public import Idealize.ShloMosaic.PureOps.Ideal.Laws

@[expose] public section

noncomputable section

namespace Cert.CrossEntropy.Ref

open Cert.ReferenceIdeal Cert.ReferenceIdeal.Gen

open Idealize.ShloMosaic Idealize.ShloMosaic.ValueIdx
open scoped BigOperators

/-! ## The pieces of the reference's term -/

/-- All logits. -/
def dots (x : FVec Ideal S256x512 .f32) (W : FVec Ideal S512x16384 .f32) : FVec Ideal S256x16384 .f32 :=
  Host.dotGeneral dot_S256x512_S512x16384_S256x16384_1_0_0_1_n_n none x W

theorem dots_apply (x : FVec Ideal S256x512 .f32) (W : FVec Ideal S512x16384 .f32) (r : Fin 256) (j : Fin 16384) :
    dots x W (ix2 r j) = ∑ k : Fin 512, x (ix2 r k) * W (ix2 k j) :=
  StackMember.dotGeneral_plain_apply (m := 256) (k := 512) (n := 16384) none x W r j

theorem reducesCols : S256x16384.Reduces [1] S256 := by decide

theorem lift_col (r : Fin 256) (j : Fin 16384) : reducesCols.lift (ix1 r) j = ix2 r j := by
  funext a; match a with | ⟨0, _⟩ => rfl | ⟨1, _⟩ => rfl

theorem ofBits_bottom : Ideal.ofBits .f32 0xFF800000#32 = ⊥ := by simp [Ideal.ofBits, Ideal.ieee]

theorem ofBits_top : Ideal.ofBits .f32 0x7F800000#32 = ⊤ := by simp [Ideal.ofBits, Ideal.ieee]

/-- The rows' largest logits. -/
def top (D : FVec Ideal S256x16384 .f32) : FVec Ideal S256 .f32 :=
  Host.reduce FloatOps.maximumf D (constant S_ .f32 0xFF800000#32) reducesTo_S256x16384_S256_d1 h_S_

theorem top_apply (D : FVec Ideal S256x16384 .f32) (r : Fin 256) :
    top D (ix1 r) = (Finset.univ : Finset (Fin 16384)).fold max ⊥ fun j => D (ix2 r j) := by
  have h := Host.reduce_eq_fold_single (max : EReal → EReal → EReal) D (constant (F := Ideal) S_ .f32 0xFF800000#32)
    reducesTo_S256x16384_S256_d1 reducesCols h_S_ (ix1 r)
  refine h.trans ?_
  rw [show constant (F := Ideal) S_ .f32 0xFF800000#32 (Shape.Idx.first h_S_) = (⊥ : EReal) from ofBits_bottom]
  exact congrArg (fun g => (Finset.univ : Finset (Fin 16384)).fold max (⊥ : EReal) g) (funext fun j => congrArg D (lift_col r j))

theorem log_apply {s : Shape} (v : FVec Ideal s .f32) (i : s.Idx) : Host.log v i = Ideal.log (v i) := rfl

theorem exp_apply {s : Shape} (v : FVec Ideal s .f32) (i : s.Idx) : Host.exp v i = Ideal.exp (v i) := rfl

/-- A row's sum. -/
theorem sum_apply (v : FVec Ideal S256x16384 .f32) (r : Fin 256) :
    Host.reduceAdd v (constant S_ .f32 0x00000000#32) reducesTo_S256x16384_S256_d1 h_S_ (ix1 r) = ∑ j : Fin 16384, v (ix2 r j) := by
  rw [hostReduceAdd_apply, Ideal.hostReduceAdd_single _ reducesCols]
  rw [show constant (F := Ideal) S_ .f32 0x00000000#32 (Shape.Idx.first h_S_) = (0 : EReal) from Ideal.ofBits_zero_f32, zero_add]
  exact Finset.sum_congr rfl fun j _ => congrArg v (lift_col r j)

/-- A vector as a column. -/
theorem column_apply {α : Type} (v : S256.Idx → α) (r : Fin 256) :
    broadcastInDim S256x1 ![0] bcast_S256_S256x1_0 v (ix2 r (0 : Fin 1)) = v (ix1 r) :=
  broadcastInDim_apply _ _ _ _ (ix1 r) fun a => by match a with | ⟨0, _⟩ => rfl

/-- A column across all columns. -/
theorem across_apply {α : Type} (v : S256x1.Idx → α) (r : Fin 256) (j : Fin 16384) :
    broadcastInDim S256x16384 ![0, 1] bcast_S256x1_S256x16384_0_1 v (ix2 r j) = v (ix2 r (0 : Fin 1)) :=
  broadcastInDim_apply _ _ _ _ (ix2 r (0 : Fin 1)) fun a => by match a with | ⟨0, _⟩ => rfl | ⟨1, _⟩ => rfl

/-- A column as a vector. -/
theorem flat_apply {α : Type} (v : S256x1.Idx → α) (r : Fin 256) :
    shapeCast S256 v shapeCasts_S256x1_S256 (ix1 r) = v (ix2 r (0 : Fin 1)) := by
  refine shapeCast_apply _ _ _ _ ?_
  rw [Shape.rowMajor_val_two, Shape.rowMajor_val_one]
  show r.val * 1 + 0 = r.val
  omega

/-- The gather, where both components of its index are in range. -/
theorem gather_apply (D : FVec Ideal S256x16384 .f32) (idx : IVec S256x2 32) (r : Fin 256) (a : Fin 16384)
    (h0 : (idx (ix2 r (0 : Fin 2))).toInt.toNat = r.val) (h1 : (idx (ix2 r (1 : Fin 2))).toInt.toNat = a.val) :
    Host.gather gather_S256x16384_S256x2_S256_n_01_n_n_01_1_11 D idx (ix1 r) = D (ix2 r a) := by
  unfold Host.gather
  refine congrArg D (funext fun ax => Fin.ext ?_)
  have hk : ax ∉ gather_S256x16384_S256x2_S256_n_01_n_n_01_1_11.sKept := fun h =>
    ((GatherDims.mem_sKept _ _).mp h).1 (by revert ax; decide)
  show GatherDims.start _ _ _ ax + GatherDims.batchCoord _ _ ax + GatherDims.offCoord _ _ ax = _
  rw [GatherDims.batchCoord_eq_zero _ _ _ List.not_mem_nil, GatherDims.offCoord_eq_zero _ _ _ hk]
  simp only [Nat.add_zero]
  have hm : ax ∈ gather_S256x16384_S256x2_S256_n_01_n_n_01_1_11.startIndexMap := by clear hk; revert ax; decide
  unfold GatherDims.start
  rw [dif_pos hm]
  match ax with
  | ⟨0, _⟩ =>
    rw [show GatherDims.siIdx gather_S256x16384_S256x2_S256_n_01_n_n_01_1_11 (ix1 r) ⟨_, List.idxOf_lt_length_iff.2 hm⟩ = ix2 r (0 : Fin 2) from by
      funext b; refine Fin.ext ?_; match b with | ⟨0, _⟩ => rfl | ⟨1, _⟩ => rfl, h0]
    show min r.val 255 = r.val
    omega
  | ⟨1, _⟩ =>
    rw [show GatherDims.siIdx gather_S256x16384_S256x2_S256_n_01_n_n_01_1_11 (ix1 r) ⟨_, List.idxOf_lt_length_iff.2 hm⟩ = ix2 r (1 : Fin 2) from by
      funext b; refine Fin.ext ?_; match b with | ⟨0, _⟩ => rfl | ⟨1, _⟩ => rfl, h1]
    show min a.val 16383 = a.val
    omega

/-! ## The index words -/

/-- A word that is not negative is left as it is by the wrap of negative indices. -/
theorem wrapped (u v : IVec S256 32) (i : S256.Idx) (h : (u i).toNat < 2 ^ 31) :
    select (cmpi .slt u (broadcastInDim S256 ![] bcast_S_S256 (constantI S_ 32 0#32))) v u i = u i := by
  rw [select_apply]
  have e : cmpi .slt u (broadcastInDim S256 ![] bcast_S_S256 (constantI S_ 32 0#32)) i = IntOp.cmpi .slt (u i) 0#32 := rfl
  rw [e, eq_zero_of_ne_one fun h' => absurd ((StableHlo.Predicate.slt_iff_toNat h (by decide)).mp h') (by simp), select_zero]

/-- Side by side, the first -/
theorem pair_left (u v : IVec S256x1 32) (r : Fin 256) :
    concatenate S256x2 1 [⟨S256x1, u⟩, ⟨S256x1, v⟩] concatenates_S256x1_S256x1_S256x2_d1 (ix2 r (0 : Fin 2)) = u (ix2 r (0 : Fin 1)) :=
  concatenate_pair_apply_left (t := S256x2) (s₁ := S256x1) (s₂ := S256x1) 1 u v _ (ix2 r (0 : Fin 2)) rfl (ix2 r (0 : Fin 1)) fun b => by match b with | ⟨0, _⟩ => rfl | ⟨1, _⟩ => rfl

/-- and the second. -/
theorem pair_right (u v : IVec S256x1 32) (r : Fin 256) :
    concatenate S256x2 1 [⟨S256x1, u⟩, ⟨S256x1, v⟩] concatenates_S256x1_S256x1_S256x2_d1 (ix2 r (1 : Fin 2)) = v (ix2 r (0 : Fin 1)) :=
  concatenate_pair_apply_right (t := S256x2) (s₁ := S256x1) (s₂ := S256x1) 1 u v _ (ix2 r (1 : Fin 2)) rfl rfl (ix2 r (0 : Fin 1))
    (fun b hb => by match b with | ⟨0, _⟩ => rfl | ⟨1, _⟩ => exact absurd rfl hb) rfl

/-! ## The whole term -/

/-- The reference's result, as its run states it. -/
def out (x : FVec Ideal S256x512 .f32) (W : FVec Ideal S512x16384 .f32) (lab : IVec S256 32) : FVec Ideal S256 .f32 :=
  subf (shapeCast _ (addf (broadcastInDim S256x1 ![0] bcast_S256_S256x1_0 (top (dots x W)))
      (Host.log (broadcastInDim S256x1 ![0] bcast_S256_S256x1_0 (Host.reduceAdd (Host.exp (subf (dots x W)
        (broadcastInDim S256x16384 ![0, 1] bcast_S256x1_S256x16384_0_1 (broadcastInDim S256x1 ![0] bcast_S256_S256x1_0 (top (dots x W))))))
        (constant S_ .f32 0x00000000#32) reducesTo_S256x16384_S256_d1 h_S_)))) shapeCasts_S256x1_S256)
    (Host.gather gather_S256x16384_S256x2_S256_n_01_n_n_01_1_11 (dots x W)
      (concatenate S256x2 1
        [⟨S256x1, (broadcastInDim S256x1 ![0] bcast_S256_S256x1_0
            (select (cmpi .slt (iotaInDim S256 32 0) (broadcastInDim S256 ![] bcast_S_S256 (constantI S_ 32 0#32)))
              (addi (iotaInDim S256 32 0) (broadcastInDim S256 ![] bcast_S_S256 (constantI S_ 32 256#32))) (iotaInDim S256 32 0)))⟩,
         ⟨S256x1, (broadcastInDim S256x1 ![0] bcast_S256_S256x1_0
            (select (cmpi .slt lab (broadcastInDim S256 ![] bcast_S_S256 (constantI S_ 32 0#32)))
              (addi lab (broadcastInDim S256 ![] bcast_S_S256 (constantI S_ 32 16384#32))) lab))⟩]
        concatenates_S256x1_S256x1_S256x2_d1))

/-- The reference's result in row `r`, its label the column `a`. -/
theorem out_apply (x : FVec Ideal S256x512 .f32) (W : FVec Ideal S512x16384 .f32) (lab : IVec S256 32) (r : Fin 256) (a : Fin 16384)
    (ha : (lab (ix1 r)).toNat = a.val) :
    out x W lab (ix1 r)
      = (Finset.univ.fold max ⊥ (fun j => dots x W (ix2 r j))
          + Ideal.log (∑ j, Ideal.exp (dots x W (ix2 r j) - Finset.univ.fold max ⊥ fun j => dots x W (ix2 r j)))) - dots x W (ix2 r a) := by
  unfold out
  rw [subf_apply]
  refine congrArg₂ (fun a b : EReal => a - b) ?_ ?_
  · rw [flat_apply, addf_apply, column_apply, top_apply, log_apply, column_apply, sum_apply]
    refine congrArg₂ (fun a b : EReal => a + Ideal.log b) rfl (Finset.sum_congr rfl fun j _ => ?_)
    rw [exp_apply, subf_apply, across_apply, column_apply, top_apply]
  · refine gather_apply _ _ r a ?_ ?_
    · have hr : (BitVec.ofNat 32 r.val).toNat = r.val := by rw [BitVec.toNat_ofNat]; omega
      rw [pair_left, column_apply, wrapped _ _ _ (by rw [iotaInDim_apply]; show (BitVec.ofNat 32 r.val).toNat < _; omega), iotaInDim_apply]
      show (BitVec.ofNat 32 r.val).toInt.toNat = _
      rw [StableHlo.Predicate.toInt_eq_toNat_of_lt (by omega), Int.toNat_natCast, hr]
    · rw [pair_right, column_apply, wrapped _ _ _ (by omega), StableHlo.Predicate.toInt_eq_toNat_of_lt (by omega), Int.toNat_natCast, ha]

/-! ## The precondition -/

/-- An extended real below infinity in absolute value is a real. -/
theorem isReal_of_abs (x : EReal) (h : Ideal.cmp .olt (max x (-x)) (Ideal.ofBits .f32 0x7F800000#32) = 1#1) : IsReal x := by
  rw [ofBits_top] at h
  have h' : max x (-x) < ⊤ := of_decide_eq_true ((StableHlo.Predicate.ofBool_eq_one_iff _).mp h)
  have h1 : x < ⊤ := lt_of_le_of_lt (le_max_left _ _) h'
  have h2 : -x < ⊤ := lt_of_le_of_lt (le_max_right _ _) h'
  refine ⟨x.toReal, (EReal.coe_toReal h1.ne fun e => ?_).symm⟩
  rw [e] at h2; simp at h2

/-- A word at least zero and below the number of columns, signed, is a column. -/
theorem in_range (b : BitVec 32) (h : IntOp.andi (IntOp.cmpi .sge b 0#32) (IntOp.cmpi .slt b 16384#32) = 1#1) : b.toNat < 16384 := by
  have h' : (0#32).sle b = true ∧ b.slt 16384#32 = true := by
    have e : IntOp.cmpi .sge b 0#32 = BitVec.ofBool ((0#32).sle b) := rfl
    have e' : IntOp.cmpi .slt b 16384#32 = BitVec.ofBool (b.slt 16384#32) := rfl
    rw [e, e'] at h
    revert h
    cases (0#32).sle b <;> cases b.slt 16384#32 <;> decide
  have h1 : (0 : Int) ≤ b.toInt := by have := h'.1; simpa [BitVec.sle] using this
  have h2 : b.toInt < 16384 := by have := h'.2; simpa [BitVec.slt] using this
  rw [BitVec.toInt_eq_toNat_cond] at h1 h2
  have := b.isLt
  split at h1 <;> omega

variable {x : FVec Ideal S256x512 .f32} {w : FVec Ideal ⟨2, ![512, 4096]⟩ .f32} {lab : IVec S256 32}

theorem pre_x (h : (Cert.Pre_finite_and_in_range_KernelIdeal.fn (F := Ideal) x w lab).1 = fun _ => 1#1) (i : S256x512.Idx) : IsReal (x i) :=
  isReal_of_abs _ (congrFun h i)

theorem pre_w (h : (Cert.Pre_finite_and_in_range_KernelIdeal.fn (F := Ideal) x w lab).2.1 = fun _ => 1#1) (i : (⟨2, ![512, 4096]⟩ : Shape).Idx) :
    IsReal (w i) := isReal_of_abs _ (congrFun h i)

theorem pre_lab (h : (Cert.Pre_finite_and_in_range_KernelIdeal.fn (F := Ideal) x w lab).2.2 = fun _ => 1#1) (i : S256.Idx) :
    (lab i).toNat < 16384 := in_range _ (congrFun h i)

end Cert.CrossEntropy.Ref

end
-- ==== Proof.Equal.lean ====
/-
The kernel's result and the reference's are the same extended reals.
-/
module

public import proofs.«01_k».proof.Proof.Values
public import proofs.«01_k».proof.Proof.Reference

@[expose] public section

noncomputable section

namespace Cert.CrossEntropy

open Cert.KernelIdeal Cert.KernelIdeal.Gen

open Idealize.ShloMosaic Idealize.ShloMosaic.ValueIdx
open Idealize.ShloMosaic.TcCoe
open Idealize.ShloMosaic.Pipeline (Dat)
open scoped BigOperators

/-! ## What the run leaves in the arrays -/

section Final

variable {F : FTy → Type} [FloatOps F] (m : (ℓ : Loc nD τ sig) → Buf (Elt F) ℓ) (ρ : Dev nD → PrngReg)

theorem final_in (c : Dev nD) (w : Fin cfg0.W) (h : (cfg0.win w).isOut = false) :
    finalA m ρ c w = m ((cfg0.win w).arr.view.loc (c : Thread nD τ)) :=
  (dats m ρ 0 c).arrAt_in w h _

theorem final_out (c : Dev nD) : finalA m ρ c (3 : Fin 4) = outAt m c := by
  have h : (win0_3.blk (0 : Fin 1)).view.read (Elt F) (finalA m ρ c (3 : Fin 4)) = outAt m c := by
    unfold finalA
    rw [show cfg0.N = ((0 : Fin 1) : Fin cfg0.N).val + 1 from rfl, (dats m ρ 0 c).arrAt_succ (3 : Fin 4) (0 : Fin 1)]
    rw [if_pos (flush0_3 (0 : Fin 1))]
    exact View.read_write_univ _ _
  exact (Memref.read_access_unit_zero (Elt F) main_v1 (funext fun _ => Nat.zero_mul _) _ _).symm.trans h

end Final

/-! ## The equality -/

/-- Column `j` of quarter `k`, as the kernel's words name it, is the label just when it is the label's column. -/
theorem is_label (k : Fin 4) (j : Fin 4096) (b : BitVec 32) (a : Fin 16384) (ha : b.toNat = a.val) :
    BitVec.ofNat 32 j.val + BitVec.ofNat 32 k.val * 4096#32 = b ↔ col k j = a := by
  have e : (BitVec.ofNat 32 j.val + BitVec.ofNat 32 k.val * 4096#32).toNat = (col k j).val := by
    simp only [BitVec.toNat_add, BitVec.toNat_mul, BitVec.toNat_ofNat, col]; omega
  rw [← BitVec.toNat_inj, e, ha, Fin.ext_iff]

/-- Every column lies in a quarter. -/
theorem exists_col (i : Fin 16384) : ∃ k j, col k j = i :=
  ⟨⟨i.val / 4096, by omega⟩, ⟨i.val % 4096, by omega⟩, Fin.ext (by show 4096 * (i.val / 4096) + i.val % 4096 = i.val; omega)⟩

variable (m : (ℓ : Loc nD τ sig) → Buf (Elt Ideal) ℓ)
  (x : FVec Ideal S256x512 .f32) (W : FVec Ideal ⟨2, ![512, 16384]⟩ .f32) (lab : IVec S256 32)

theorem logit_quarter (c : Dev nD) (k : Fin 4) (r : Fin 256) (j : Fin 4096) :
    logit x (Layout.blockN ⟨2, ![512, 4096]⟩ ⟨2, ![512, 16384]⟩ (Layout.meshBlock [2, 2, 4] ![[], [2]] (memb c k)) W (by decide)) r j
      = Ref.dots x W (ix2 r (col k j)) := by
  unfold logit
  rw [Ref.dots_apply]
  exact Finset.sum_congr rfl fun i _ => by rw [quarter]

/-- Where every device holds its share of `x`, `W` and `lab`, all finite and the labels columns, every device's result is the
    reference's. -/
theorem outAt_eq
    (hx : ∀ c : Dev nD, m ((c : Thread nD τ).loc main_arg0) = x)
    (hw : ∀ c : Dev nD, m ((c : Thread nD τ).loc main_arg1)
      = Layout.blockN ⟨2, ![512, 4096]⟩ ⟨2, ![512, 16384]⟩ (Layout.meshBlock [2, 2, 4] ![[], [2]] c) W (by decide))
    (hl : ∀ c : Dev nD, m ((c : Thread nD τ).loc main_arg2) = lab)
    (fx : ∀ i, IsReal (x i)) (fw : ∀ (c : Dev nD) i, IsReal ((m ((c : Thread nD τ).loc main_arg1) : FVec Ideal S512x4096 .f32) i))
    (rl : ∀ i, (lab i).toNat < 16384) (c : Dev nD) : outAt m c = Ref.out x W lab := by
  funext i
  obtain ⟨r, rfl⟩ : ∃ r : Fin 256, i = ix1 r := ⟨i 0, eq_ix1 i⟩
  have hd : ∀ j, IsReal (Ref.dots x W (ix2 r j)) := fun j => by
    obtain ⟨k, j, rfl⟩ := exists_col j
    rw [← logit_quarter x W c k r j, ← hw]
    exact isReal_sum_mul _ _ (fun _ => fx _) fun _ => fw _ _
  rw [Ref.out_apply x W lab r ⟨_, rl (ix1 r)⟩ rfl, entropy_quarters (fun j => Ref.dots x W (ix2 r j)) hd, outAt_apply]
  simp only [hx, hw, hl, logit_quarter, is_label _ _ (lab (ix1 r)) ⟨_, rl (ix1 r)⟩ rfl]

end Cert.CrossEntropy

end
-- ==== Proof.lean ====
/-
The claims about the distributed cross-entropy kernel, put together: both readings of the kernel and the reference run, leave
their arguments as they were and every counter at zero, and over the extended reals every device of the mesh ends with the
reference's result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_and_in_range_KernelIdeal
public import proofs.«01_k».proof.Proof.Gen.Pre_finite_and_in_range_ReferenceIdeal
public import proofs.«01_k».proof.Proof.Equal
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- A run of the kernel leaves every device's arguments as they were and every counter at zero, whatever the floats. -/
theorem kernel_frame {F : FTy → Type} [FloatOps F] (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run Cert.KernelIdeal.defs _ _).mono (fun _ h => ⟨fun c =>
      ⟨(h.1 c (0 : Fin 4)).trans (CrossEntropy.final_in m g c (0 : Fin 4) rfl),
       (h.1 c (1 : Fin 4)).trans (CrossEntropy.final_in m g c (1 : Fin 4) rfl),
       (h.1 c (2 : Fin 4)).trans (CrossEntropy.final_in m g c (2 : Fin 4) rfl)⟩, h.2⟩)
    (CrossEntropy.run_main m g)

/-- The program as printed and the one read on the extended reals run the same bodies. -/
theorem bodies_eq {F : FTy → Type} [FloatOps F] : Cert.Kernel.defs₀ (F := F) = Cert.KernelIdeal.defs₀ (F := F) := by
  unfold Cert.Kernel.defs₀ Cert.KernelIdeal.defs₀
  refine congrArg Defs.onTc (funext fun l => funext fun a => ?_)
  match l, a with
  | ⟨0, _⟩, (t, s) => exact rfl

theorem defs_eq {F : FTy → Type} [FloatOps F] : Cert.Kernel.defs (F := F) = Cert.KernelIdeal.defs (F := F) :=
  congrArg (Pipeline.defs _) bodies_eq

/-- The kernel as printed runs. -/
theorem frame_printed : Cert.quiescent_Kernel := by
  intro m g _
  rw [defs_eq]
  exact kernel_frame (F := Bits) m g

/-- The kernel over the extended reals runs. -/
theorem frame_kernel : Cert.quiescent_KernelIdeal := fun m g _ => kernel_frame m g

theorem frame_kernel_pre : Cert.quiescent_KernelIdeal_pre_finite_and_in_range_KernelIdeal := fun m g _ => kernel_frame m g

/-- The reference runs; it has no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem frame_reference_pre : Cert.quiescent_ReferenceIdeal_pre_finite_and_in_range_ReferenceIdeal := fun m g _ => frame_reference m g trivial

/-- On finite operands and labels that name a column, every device ends with the reference's result. -/
theorem value : Cert.algebraic_KernelIdeal_ReferenceIdeal_pre_finite_and_in_range_KernelIdeal := by
  intro m g m' g' hpre hagree
  refine ⟨CrossEntropy.Ref.out
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)), ?_, ?_⟩
  · refine (θ_run Cert.KernelIdeal.defs _ _).mono (fun _ h c => ⟨(h.1.1 c (3 : Fin 4)).trans ((CrossEntropy.final_out m g c).trans ?_), h.2.1 c⟩)
      (θ_run_and (CrossEntropy.run_main m g) (kernel_frame m g))
    refine CrossEntropy.outAt_eq m _ _ _ (fun c => (hagree c).1) (fun c => (hagree c).2.1) (fun c => (hagree c).2.2) ?_ ?_ ?_ c
    · intro i
      rw [← (hagree c).1]
      exact CrossEntropy.Ref.pre_x (hpre c).1 i
    · exact fun c i => CrossEntropy.Ref.pre_w (hpre c).2.1 i
    · intro i
      rw [← (hagree c).2.2]
      exact CrossEntropy.Ref.pre_lab (hpre c).2.2 i
  · exact (θ_run Cert.ReferenceIdeal.defs _ _).mono (fun _ h => h 0) (Cert.ReferenceIdeal.Value.run (F := Ideal) m' g')

theorem claim : Cert.Claim :=
  ⟨Cert.Kernel.Gen.facts, Cert.KernelIdeal.Gen.facts, Cert.ReferenceIdeal.Gen.facts, Cert.Pre_finite_and_in_range_KernelIdeal.Gen.facts,
    Cert.Pre_finite_and_in_range_ReferenceIdeal.Gen.facts, frame_printed, frame_kernel, frame_kernel_pre, frame_reference, frame_reference_pre,
    trivial, value⟩

end Cert.Proof

end
